-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_conv2_zero [hPre_conv2_zero : Cert.Pre_conv2_zero.Facts] (m : (ℓ : Loc Cert.KernelIdeal.nD Cert.KernelIdeal.τ Cert.KernelIdeal.sig) → Buf (Elt Ideal) ℓ) : Prop :=
  ∀ c : Dev Cert.KernelIdeal.nD,
    (Cert.Pre_conv2_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_conv2_zero [hPre_conv2_zero : Cert.Pre_conv2_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_conv2_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_conv2_zero [hKernelIdeal : Cert.KernelIdeal.Facts] [hPre_conv2_zero : Cert.Pre_conv2_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_conv2_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_conv2_zero [hReferenceIdeal : Cert.ReferenceIdeal.Facts] [hPre_conv2_zero : Cert.Pre_conv2_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_conv2_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_conv2_zero [hKernelIdeal : Cert.KernelIdeal.Facts] [hReferenceIdeal : Cert.ReferenceIdeal.Facts] [hPre_conv2_zero : Cert.Pre_conv2_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_conv2_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v446) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_conv2_zero : Cert.Pre_conv2_zero.Facts),
    quiescent_Kernel (hKernel := hKernel)
    ∧ quiescent_KernelIdeal (hKernelIdeal := hKernelIdeal)
    ∧ quiescent_KernelIdeal_pre_conv2_zero (hKernelIdeal := hKernelIdeal) (hPre_conv2_zero := hPre_conv2_zero)
    ∧ quiescent_ReferenceIdeal (hReferenceIdeal := hReferenceIdeal)
    ∧ quiescent_ReferenceIdeal_pre_conv2_zero (hReferenceIdeal := hReferenceIdeal) (hPre_conv2_zero := hPre_conv2_zero)
    ∧ preserves_Kernel_KernelIdeal
    ∧ algebraic_KernelIdeal_ReferenceIdeal_pre_conv2_zero (hKernelIdeal := hKernelIdeal) (hReferenceIdeal := hReferenceIdeal) (hPre_conv2_zero := hPre_conv2_zero)
-- ==== Pre_conv2_zero.lean ====
abbrev S10000x64 : Shape := ⟨2, ![10000, 64]⟩
abbrev S10000x27 : Shape := ⟨2, ![10000, 27]⟩
abbrev S80000x27 : Shape := ⟨2, ![80000, 27]⟩
abbrev S64 : Shape := ⟨1, ![64]⟩
abbrev S64x8 : Shape := ⟨2, ![64, 8]⟩
abbrev S8 : Shape := ⟨1, ![8]⟩
abbrev S27x64x512 : Shape := ⟨3, ![27, 64, 512]⟩
abbrev S512 : Shape := ⟨1, ![512]⟩
abbrev S27x64x64 : Shape := ⟨3, ![27, 64, 64]⟩
abbrev S_ : Shape := ⟨0, ![]⟩

class Facts : Prop where
  bcast_S_S27x64x64 : S_.BroadcastsInDim S27x64x64 (![] : Fin 0 → Fin S27x64x64.rank)

variable [Facts]

def fn {F : FTy → Type} [FloatOps F] (main_arg0 : FVec F S10000x64 .f32) (main_arg1 : IVec S10000x27 32) (main_arg2 : IVec S80000x27 32) (main_arg3 : FVec F S64 .f32) (main_arg4 : FVec F S64 .f32) (main_arg5 : FVec F S64x8 .f32) (main_arg6 : FVec F S8 .f32) (main_arg7 : FVec F S27x64x512 .f32) (main_arg8 : FVec F S512 .f32) (main_arg9 : FVec F S27x64x64 .f32) (main_arg10 : FVec F S64 .f32) : IVec S27x64x64 1 :=
  let main_cst : FVec F S_ .f32 := constant S_ .f32 0x00000000#32
  let main_v0 : FVec F S27x64x64 .f32 := broadcastInDim S27x64x64 ![] bcast_S_S27x64x64 main_cst
  let main_v1 : IVec S27x64x64 1 := cmpf .oeq main_arg9 main_v0
  main_v1
-- ==== Kernel.lean ====
abbrev S10000x64 : Shape := ⟨2, ![10000, 64]⟩
abbrev S10000x27 : Shape := ⟨2, ![10000, 27]⟩
abbrev S80000x27 : Shape := ⟨2, ![80000, 27]⟩
abbrev S64 : Shape := ⟨1, ![64]⟩
abbrev S64x8 : Shape := ⟨2, ![64, 8]⟩
abbrev S8 : Shape := ⟨1, ![8]⟩
abbrev S27x64x512 : Shape := ⟨3, ![27, 64, 512]⟩
abbrev S512 : Shape := ⟨1, ![512]⟩
abbrev S27x64x64 : Shape := ⟨3, ![27, 64, 64]⟩
abbrev S64x64 : Shape := ⟨2, ![64, 64]⟩
abbrev S16384x64 : Shape := ⟨2, ![16384, 64]⟩
abbrev S_ : Shape := ⟨0, ![]⟩
abbrev S64x10000 : Shape := ⟨2, ![64, 10000]⟩
abbrev S8x64 : Shape := ⟨2, ![8, 64]⟩
abbrev S8x1 : Shape := ⟨2, ![8, 1]⟩
abbrev S8x128 : Shape := ⟨2, ![8, 128]⟩
abbrev S64x1 : Shape := ⟨2, ![64, 1]⟩
abbrev S64x128 : Shape := ⟨2, ![64, 128]⟩
abbrev S8x10000 : Shape := ⟨2, ![8, 10000]⟩
abbrev S64x80000 : Shape := ⟨2, ![64, 80000]⟩
abbrev S64x2048 : Shape := ⟨2, ![64, 2048]⟩
abbrev S8x2048 : Shape := ⟨2, ![8, 2048]⟩
abbrev S64x16384 : Shape := ⟨2, ![64, 16384]⟩
abbrev S8x1x2048 : Shape := ⟨3, ![8, 1, 2048]⟩
abbrev S8x8x2048 : Shape := ⟨3, ![8, 8, 2048]⟩
abbrev S2048x64 : Shape := ⟨2, ![2048, 64]⟩
abbrev S2048x1x64 : Shape := ⟨3, ![2048, 1, 64]⟩
abbrev S2048x8x64 : Shape := ⟨3, ![2048, 8, 64]⟩
abbrev S80000x64 : Shape := ⟨2, ![80000, 64]⟩
abbrev S10000x8 : Shape := ⟨2, ![10000, 8]⟩

abbrev nBuf : Space → Nat
  | .hbm => 37
  | .vmem => 11
  | .smem => 0
  | _ => 0

abbrev bufTy : (tb : Table) → Fin (tcTables nBuf tb) → BufTy
  | .hbm, ⟨0, _⟩ => ⟨S10000x64, .f32⟩
  | .hbm, ⟨1, _⟩ => ⟨S10000x27, .i32⟩
  | .hbm, ⟨2, _⟩ => ⟨S80000x27, .i32⟩
  | .hbm, ⟨3, _⟩ => ⟨S64, .f32⟩
  | .hbm, ⟨4, _⟩ => ⟨S64, .f32⟩
  | .hbm, ⟨5, _⟩ => ⟨S64x8, .f32⟩
  | .hbm, ⟨6, _⟩ => ⟨S8, .f32⟩
  | .hbm, ⟨7, _⟩ => ⟨S27x64x512, .f32⟩
  | .hbm, ⟨8, _⟩ => ⟨S512, .f32⟩
  | .hbm, ⟨9, _⟩ => ⟨S27x64x64, .f32⟩
  | .hbm, ⟨10, _⟩ => ⟨S64, .f32⟩
  | .hbm, ⟨11, _⟩ => ⟨S64x64, .bf16⟩
  | .hbm, ⟨12, _⟩ => ⟨S16384x64, .i32⟩
  | .hbm, ⟨13, _⟩ => ⟨S_, .i32⟩
  | .hbm, ⟨14, _⟩ => ⟨S16384x64, .i32⟩
  | .hbm, ⟨15, _⟩ => ⟨S16384x64, .i32⟩
  | .hbm, ⟨16, _⟩ => ⟨S16384x64, .i32⟩
  | .hbm, ⟨17, _⟩ => ⟨S_, .i32⟩
  | .hbm, ⟨18, _⟩ => ⟨S16384x64, .i32⟩
  | .hbm, ⟨19, _⟩ => ⟨S16384x64, .i32⟩
  | .hbm, ⟨20, _⟩ => ⟨S16384x64, .i1⟩
  | .hbm, ⟨21, _⟩ => ⟨S_, .f32⟩
  | .hbm, ⟨22, _⟩ => ⟨S_, .f32⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S64x10000, .f32⟩
  | .hbm, ⟨27, _⟩ => ⟨S8x64, .f32⟩
  | .hbm, ⟨28, _⟩ => ⟨S8x1, .f32⟩
  | .hbm, ⟨29, _⟩ => ⟨S8x128, .f32⟩
  | .hbm, ⟨30, _⟩ => ⟨S64x1, .f32⟩
  | .hbm, ⟨31, _⟩ => ⟨S64x128, .f32⟩
  | .hbm, ⟨32, _⟩ => ⟨S16384x64, .bf16⟩
  | .hbm, ⟨33, _⟩ => ⟨S8x10000, .f32⟩
  | .hbm, ⟨34, _⟩ => ⟨S64x80000, .f32⟩
  | .hbm, ⟨35, _⟩ => ⟨S80000x64, .f32⟩
  | .hbm, ⟨36, _⟩ => ⟨S10000x8, .f32⟩
  | .local _ .vmem, ⟨0, _⟩ => ⟨S64x2048, .f32⟩
  | .local _ .vmem, ⟨1, _⟩ => ⟨S64x2048, .f32⟩
  | .local _ .vmem, ⟨2, _⟩ => ⟨S8x64, .f32⟩
  | .local _ .vmem, ⟨3, _⟩ => ⟨S8x128, .f32⟩
  | .local _ .vmem, ⟨4, _⟩ => ⟨S64x128, .f32⟩
  | .local _ .vmem, ⟨5, _⟩ => ⟨S64x64, .bf16⟩
  | .local _ .vmem, ⟨6, _⟩ => ⟨S16384x64, .bf16⟩
  | .local _ .vmem, ⟨7, _⟩ => ⟨S8x2048, .f32⟩
  | .local _ .vmem, ⟨8, _⟩ => ⟨S8x2048, .f32⟩
  | .local _ .vmem, ⟨9, _⟩ => ⟨S64x16384, .f32⟩
  | .local _ .vmem, ⟨10, _⟩ => ⟨S64x16384, .f32⟩
  | _, _ => ⟨S10000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15_0 : Ref sig .tc := ⟨.hbm, 33, rfl⟩
abbrev main_v15_1 : Ref sig .tc := ⟨.hbm, 34, rfl⟩
abbrev main_v16 : Ref sig .tc := ⟨.hbm, 35, rfl⟩
abbrev main_v17 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16384x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x16384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S10000x64 : Shape := ⟨2, ![10000, 64]⟩
abbrev S10000x27 : Shape := ⟨2, ![10000, 27]⟩
abbrev S80000x27 : Shape := ⟨2, ![80000, 27]⟩
abbrev S64 : Shape := ⟨1, ![64]⟩
abbrev S64x8 : Shape := ⟨2, ![64, 8]⟩
abbrev S8 : Shape := ⟨1, ![8]⟩
abbrev S27x64x512 : Shape := ⟨3, ![27, 64, 512]⟩
abbrev S512 : Shape := ⟨1, ![512]⟩
abbrev S27x64x64 : Shape := ⟨3, ![27, 64, 64]⟩
abbrev S10000x8 : Shape := ⟨2, ![10000, 8]⟩
abbrev S1x8 : Shape := ⟨2, ![1, 8]⟩
abbrev S_ : Shape := ⟨0, ![]⟩
abbrev S10000 : Shape := ⟨1, ![10000]⟩
abbrev S10000x1 : Shape := ⟨2, ![10000, 1]⟩
abbrev S1x64 : Shape := ⟨2, ![1, 64]⟩
abbrev S10000x512 : Shape := ⟨2, ![10000, 512]⟩
abbrev S1x512 : Shape := ⟨2, ![1, 512]⟩
abbrev S1 : Shape := ⟨1, ![1]⟩
abbrev S1x1 : Shape := ⟨2, ![1, 1]⟩
abbrev S1x64x512 : Shape := ⟨3, ![1, 64, 512]⟩
abbrev S64x512 : Shape := ⟨2, ![64, 512]⟩
abbrev S80000x1 : Shape := ⟨2, ![80000, 1]⟩
abbrev S80000x64 : Shape := ⟨2, ![80000, 64]⟩
abbrev S80000x8 : Shape := ⟨2, ![80000, 8]⟩
abbrev S80000 : Shape := ⟨1, ![80000]⟩
abbrev S1x64x64 : Shape := ⟨3, ![1, 64, 64]⟩
abbrev S64x64 : Shape := ⟨2, ![64, 64]⟩
abbrev S80000x8x8 : Shape := ⟨3, ![80000, 8, 8]⟩

abbrev nBuf : Space → Nat
  | .hbm => 1675
  | .vmem => 0
  | .smem => 0
  | _ => 0

abbrev hbmTy0_0 (i : Nat) : BufTy := match i % 128 with
  | 0 => ⟨S10000x64, .f32⟩
  | 1 => ⟨S10000x27, .i32⟩
  | 2 => ⟨S80000x27, .i32⟩
  | 3 => ⟨S64, .f32⟩
  | 4 => ⟨S64, .f32⟩
  | 5 => ⟨S64x8, .f32⟩
  | 6 => ⟨S8, .f32⟩
  | 7 => ⟨S27x64x512, .f32⟩
  | 8 => ⟨S512, .f32⟩
  | 9 => ⟨S27x64x64, .f32⟩
  | 10 => ⟨S64, .f32⟩
  | 11 => ⟨S10000x8, .f32⟩
  | 12 => ⟨S1x8, .f32⟩
  | 13 => ⟨S10000x8, .f32⟩
  | 14 => ⟨S10000x8, .f32⟩
  | 15 => ⟨S_, .f32⟩
  | 16 => ⟨S10000, .f32⟩
  | 17 => ⟨S10000x1, .f32⟩
  | 18 => ⟨S_, .f32⟩
  | 19 => ⟨S10000x1, .f32⟩
  | 20 => ⟨S10000x1, .f32⟩
  | 21 => ⟨S10000x64, .f32⟩
  | 22 => ⟨S10000x64, .f32⟩
  | 23 => ⟨S10000x64, .f32⟩
  | 24 => ⟨S_, .f32⟩
  | 25 => ⟨S10000, .f32⟩
  | 26 => ⟨S10000x1, .f32⟩
  | 27 => ⟨S_, .f32⟩
  | 28 => ⟨S10000x1, .f32⟩
  | 29 => ⟨S10000x1, .f32⟩
  | 30 => ⟨S10000x64, .f32⟩
  | 31 => ⟨S10000x64, .f32⟩
  | 32 => ⟨S_, .f32⟩
  | 33 => ⟨S10000x1, .f32⟩
  | 34 => ⟨S10000x1, .f32⟩
  | 35 => ⟨S10000x1, .f32⟩
  | 36 => ⟨S10000x64, .f32⟩
  | 37 => ⟨S10000x64, .f32⟩
  | 38 => ⟨S1x64, .f32⟩
  | 39 => ⟨S10000x64, .f32⟩
  | 40 => ⟨S10000x64, .f32⟩
  | 41 => ⟨S1x64, .f32⟩
  | 42 => ⟨S10000x64, .f32⟩
  | 43 => ⟨S10000x64, .f32⟩
  | 44 => ⟨S10000x64, .f32⟩
  | 45 => ⟨S10000x64, .f32⟩
  | 46 => ⟨S_, .f32⟩
  | 47 => ⟨S10000x64, .f32⟩
  | 48 => ⟨S10000x64, .f32⟩
  | 49 => ⟨S_, .f32⟩
  | 50 => ⟨S10000x64, .f32⟩
  | 51 => ⟨S10000x64, .f32⟩
  | 52 => ⟨S10000x64, .f32⟩
  | 53 => ⟨S_, .f32⟩
  | 54 => ⟨S10000x512, .f32⟩
  | 55 => ⟨S1x512, .f32⟩
  | 56 => ⟨S10000x512, .f32⟩
  | 57 => ⟨S10000x512, .f32⟩
  | 58 => ⟨S10000x1, .i32⟩
  | 59 => ⟨S10000, .i32⟩
  | 60 => ⟨S_, .i32⟩
  | 61 => ⟨S10000, .i32⟩
  | 62 => ⟨S10000, .i1⟩
  | 63 => ⟨S_, .i32⟩
  | 64 => ⟨S10000, .i32⟩
  | 65 => ⟨S10000, .i32⟩
  | 66 => ⟨S10000, .i32⟩
  | 67 => ⟨S10000x1, .i32⟩
  | 68 => ⟨S1, .i32⟩
  | 69 => ⟨S_, .i32⟩
  | 70 => ⟨S10000x1, .i32⟩
  | 71 => ⟨S10000x1, .i1⟩
  | 72 => ⟨S1x1, .i32⟩
  | 73 => ⟨S10000x1, .i32⟩
  | 74 => ⟨S10000x1, .i1⟩
  | 75 => ⟨S10000x1, .i1⟩
  | 76 => ⟨S_, .i1⟩
  | 77 => ⟨S10000, .i1⟩
  | 78 => ⟨S10000x64, .f32⟩
  | 79 => ⟨S10000x64, .i1⟩
  | 80 => ⟨S_, .f32⟩
  | 81 => ⟨S10000x64, .f32⟩
  | 82 => ⟨S10000x64, .f32⟩
  | 83 => ⟨S1x64x512, .f32⟩
  | 84 => ⟨S64x512, .f32⟩
  | 85 => ⟨S10000x512, .f32⟩
  | 86 => ⟨S10000x512, .f32⟩
  | 87 => ⟨S10000x1, .i32⟩
  | 88 => ⟨S10000, .i32⟩
  | 89 => ⟨S_, .i32⟩
  | 90 => ⟨S10000, .i32⟩
  | 91 => ⟨S10000, .i1⟩
  | 92 => ⟨S_, .i32⟩
  | 93 => ⟨S10000, .i32⟩
  | 94 => ⟨S10000, .i32⟩
  | 95 => ⟨S10000, .i32⟩
  | 96 => ⟨S10000x1, .i32⟩
  | 97 => ⟨S1, .i32⟩
  | 98 => ⟨S_, .i32⟩
  | 99 => ⟨S10000x1, .i32⟩
  | 100 => ⟨S10000x1, .i1⟩
  | 101 => ⟨S1x1, .i32⟩
  | 102 => ⟨S10000x1, .i32⟩
  | 103 => ⟨S10000x1, .i1⟩
  | 104 => ⟨S10000x1, .i1⟩
  | 105 => ⟨S_, .i1⟩
  | 106 => ⟨S10000, .i1⟩
  | 107 => ⟨S10000x64, .f32⟩
  | 108 => ⟨S10000x64, .i1⟩
  | 109 => ⟨S_, .f32⟩
  | 110 => ⟨S10000x64, .f32⟩
  | 111 => ⟨S10000x64, .f32⟩
  | 112 => ⟨S1x64x512, .f32⟩
  | 113 => ⟨S64x512, .f32⟩
  | 114 => ⟨S10000x512, .f32⟩
  | 115 => ⟨S10000x512, .f32⟩
  | 116 => ⟨S10000x1, .i32⟩
  | 117 => ⟨S10000, .i32⟩
  | 118 => ⟨S_, .i32⟩
  | 119 => ⟨S10000, .i32⟩
  | 120 => ⟨S10000, .i1⟩
  | 121 => ⟨S_, .i32⟩
  | 122 => ⟨S10000, .i32⟩
  | 123 => ⟨S10000, .i32⟩
  | 124 => ⟨S10000, .i32⟩
  | 125 => ⟨S10000x1, .i32⟩
  | 126 => ⟨S1, .i32⟩
  | 127 => ⟨S_, .i32⟩
  | _ => ⟨S10000x64, .f32⟩

abbrev hbmTy0_1 (i : Nat) : BufTy := match i % 128 with
  | 0 => ⟨S10000x1, .i32⟩
  | 1 => ⟨S10000x1, .i1⟩
  | 2 => ⟨S1x1, .i32⟩
  | 3 => ⟨S10000x1, .i32⟩
  | 4 => ⟨S10000x1, .i1⟩
  | 5 => ⟨S10000x1, .i1⟩
  | 6 => ⟨S_, .i1⟩
  | 7 => ⟨S10000, .i1⟩
  | 8 => ⟨S10000x64, .f32⟩
  | 9 => ⟨S10000x64, .i1⟩
  | 10 => ⟨S_, .f32⟩
  | 11 => ⟨S10000x64, .f32⟩
  | 12 => ⟨S10000x64, .f32⟩
  | 13 => ⟨S1x64x512, .f32⟩
  | 14 => ⟨S64x512, .f32⟩
  | 15 => ⟨S10000x512, .f32⟩
  | 16 => ⟨S10000x512, .f32⟩
  | 17 => ⟨S10000x1, .i32⟩
  | 18 => ⟨S10000, .i32⟩
  | 19 => ⟨S_, .i32⟩
  | 20 => ⟨S10000, .i32⟩
  | 21 => ⟨S10000, .i1⟩
  | 22 => ⟨S_, .i32⟩
  | 23 => ⟨S10000, .i32⟩
  | 24 => ⟨S10000, .i32⟩
  | 25 => ⟨S10000, .i32⟩
  | 26 => ⟨S10000x1, .i32⟩
  | 27 => ⟨S1, .i32⟩
  | 28 => ⟨S_, .i32⟩
  | 29 => ⟨S10000x1, .i32⟩
  | 30 => ⟨S10000x1, .i1⟩
  | 31 => ⟨S1x1, .i32⟩
  | 32 => ⟨S10000x1, .i32⟩
  | 33 => ⟨S10000x1, .i1⟩
  | 34 => ⟨S10000x1, .i1⟩
  | 35 => ⟨S_, .i1⟩
  | 36 => ⟨S10000, .i1⟩
  | 37 => ⟨S10000x64, .f32⟩
  | 38 => ⟨S10000x64, .i1⟩
  | 39 => ⟨S_, .f32⟩
  | 40 => ⟨S10000x64, .f32⟩
  | 41 => ⟨S10000x64, .f32⟩
  | 42 => ⟨S1x64x512, .f32⟩
  | 43 => ⟨S64x512, .f32⟩
  | 44 => ⟨S10000x512, .f32⟩
  | 45 => ⟨S10000x512, .f32⟩
  | 46 => ⟨S10000x1, .i32⟩
  | 47 => ⟨S10000, .i32⟩
  | 48 => ⟨S_, .i32⟩
  | 49 => ⟨S10000, .i32⟩
  | 50 => ⟨S10000, .i1⟩
  | 51 => ⟨S_, .i32⟩
  | 52 => ⟨S10000, .i32⟩
  | 53 => ⟨S10000, .i32⟩
  | 54 => ⟨S10000, .i32⟩
  | 55 => ⟨S10000x1, .i32⟩
  | 56 => ⟨S1, .i32⟩
  | 57 => ⟨S_, .i32⟩
  | 58 => ⟨S10000x1, .i32⟩
  | 59 => ⟨S10000x1, .i1⟩
  | 60 => ⟨S1x1, .i32⟩
  | 61 => ⟨S10000x1, .i32⟩
  | 62 => ⟨S10000x1, .i1⟩
  | 63 => ⟨S10000x1, .i1⟩
  | 64 => ⟨S_, .i1⟩
  | 65 => ⟨S10000, .i1⟩
  | 66 => ⟨S10000x64, .f32⟩
  | 67 => ⟨S10000x64, .i1⟩
  | 68 => ⟨S_, .f32⟩
  | 69 => ⟨S10000x64, .f32⟩
  | 70 => ⟨S10000x64, .f32⟩
  | 71 => ⟨S1x64x512, .f32⟩
  | 72 => ⟨S64x512, .f32⟩
  | 73 => ⟨S10000x512, .f32⟩
  | 74 => ⟨S10000x512, .f32⟩
  | 75 => ⟨S10000x1, .i32⟩
  | 76 => ⟨S10000, .i32⟩
  | 77 => ⟨S_, .i32⟩
  | 78 => ⟨S10000, .i32⟩
  | 79 => ⟨S10000, .i1⟩
  | 80 => ⟨S_, .i32⟩
  | 81 => ⟨S10000, .i32⟩
  | 82 => ⟨S10000, .i32⟩
  | 83 => ⟨S10000, .i32⟩
  | 84 => ⟨S10000x1, .i32⟩
  | 85 => ⟨S1, .i32⟩
  | 86 => ⟨S_, .i32⟩
  | 87 => ⟨S10000x1, .i32⟩
  | 88 => ⟨S10000x1, .i1⟩
  | 89 => ⟨S1x1, .i32⟩
  | 90 => ⟨S10000x1, .i32⟩
  | 91 => ⟨S10000x1, .i1⟩
  | 92 => ⟨S10000x1, .i1⟩
  | 93 => ⟨S_, .i1⟩
  | 94 => ⟨S10000, .i1⟩
  | 95 => ⟨S10000x64, .f32⟩
  | 96 => ⟨S10000x64, .i1⟩
  | 97 => ⟨S_, .f32⟩
  | 98 => ⟨S10000x64, .f32⟩
  | 99 => ⟨S10000x64, .f32⟩
  | 100 => ⟨S1x64x512, .f32⟩
  | 101 => ⟨S64x512, .f32⟩
  | 102 => ⟨S10000x512, .f32⟩
  | 103 => ⟨S10000x512, .f32⟩
  | 104 => ⟨S10000x1, .i32⟩
  | 105 => ⟨S10000, .i32⟩
  | 106 => ⟨S_, .i32⟩
  | 107 => ⟨S10000, .i32⟩
  | 108 => ⟨S10000, .i1⟩
  | 109 => ⟨S_, .i32⟩
  | 110 => ⟨S10000, .i32⟩
  | 111 => ⟨S10000, .i32⟩
  | 112 => ⟨S10000, .i32⟩
  | 113 => ⟨S10000x1, .i32⟩
  | 114 => ⟨S1, .i32⟩
  | 115 => ⟨S_, .i32⟩
  | 116 => ⟨S10000x1, .i32⟩
  | 117 => ⟨S10000x1, .i1⟩
  | 118 => ⟨S1x1, .i32⟩
  | 119 => ⟨S10000x1, .i32⟩
  | 120 => ⟨S10000x1, .i1⟩
  | 121 => ⟨S10000x1, .i1⟩
  | 122 => ⟨S_, .i1⟩
  | 123 => ⟨S10000, .i1⟩
  | 124 => ⟨S10000x64, .f32⟩
  | 125 => ⟨S10000x64, .i1⟩
  | 126 => ⟨S_, .f32⟩
  | 127 => ⟨S10000x64, .f32⟩
  | _ => ⟨S10000x64, .f32⟩

abbrev hbmTy0_2 (i : Nat) : BufTy := match i % 128 with
  | 0 => ⟨S10000x64, .f32⟩
  | 1 => ⟨S1x64x512, .f32⟩
  | 2 => ⟨S64x512, .f32⟩
  | 3 => ⟨S10000x512, .f32⟩
  | 4 => ⟨S10000x512, .f32⟩
  | 5 => ⟨S10000x1, .i32⟩
  | 6 => ⟨S10000, .i32⟩
  | 7 => ⟨S_, .i32⟩
  | 8 => ⟨S10000, .i32⟩
  | 9 => ⟨S10000, .i1⟩
  | 10 => ⟨S_, .i32⟩
  | 11 => ⟨S10000, .i32⟩
  | 12 => ⟨S10000, .i32⟩
  | 13 => ⟨S10000, .i32⟩
  | 14 => ⟨S10000x1, .i32⟩
  | 15 => ⟨S1, .i32⟩
  | 16 => ⟨S_, .i32⟩
  | 17 => ⟨S10000x1, .i32⟩
  | 18 => ⟨S10000x1, .i1⟩
  | 19 => ⟨S1x1, .i32⟩
  | 20 => ⟨S10000x1, .i32⟩
  | 21 => ⟨S10000x1, .i1⟩
  | 22 => ⟨S10000x1, .i1⟩
  | 23 => ⟨S_, .i1⟩
  | 24 => ⟨S10000, .i1⟩
  | 25 => ⟨S10000x64, .f32⟩
  | 26 => ⟨S10000x64, .i1⟩
  | 27 => ⟨S_, .f32⟩
  | 28 => ⟨S10000x64, .f32⟩
  | 29 => ⟨S10000x64, .f32⟩
  | 30 => ⟨S1x64x512, .f32⟩
  | 31 => ⟨S64x512, .f32⟩
  | 32 => ⟨S10000x512, .f32⟩
  | 33 => ⟨S10000x512, .f32⟩
  | 34 => ⟨S10000x1, .i32⟩
  | 35 => ⟨S10000, .i32⟩
  | 36 => ⟨S_, .i32⟩
  | 37 => ⟨S10000, .i32⟩
  | 38 => ⟨S10000, .i1⟩
  | 39 => ⟨S_, .i32⟩
  | 40 => ⟨S10000, .i32⟩
  | 41 => ⟨S10000, .i32⟩
  | 42 => ⟨S10000, .i32⟩
  | 43 => ⟨S10000x1, .i32⟩
  | 44 => ⟨S1, .i32⟩
  | 45 => ⟨S_, .i32⟩
  | 46 => ⟨S10000x1, .i32⟩
  | 47 => ⟨S10000x1, .i1⟩
  | 48 => ⟨S1x1, .i32⟩
  | 49 => ⟨S10000x1, .i32⟩
  | 50 => ⟨S10000x1, .i1⟩
  | 51 => ⟨S10000x1, .i1⟩
  | 52 => ⟨S_, .i1⟩
  | 53 => ⟨S10000, .i1⟩
  | 54 => ⟨S10000x64, .f32⟩
  | 55 => ⟨S10000x64, .i1⟩
  | 56 => ⟨S_, .f32⟩
  | 57 => ⟨S10000x64, .f32⟩
  | 58 => ⟨S10000x64, .f32⟩
  | 59 => ⟨S1x64x512, .f32⟩
  | 60 => ⟨S64x512, .f32⟩
  | 61 => ⟨S10000x512, .f32⟩
  | 62 => ⟨S10000x512, .f32⟩
  | 63 => ⟨S10000x1, .i32⟩
  | 64 => ⟨S10000, .i32⟩
  | 65 => ⟨S_, .i32⟩
  | 66 => ⟨S10000, .i32⟩
  | 67 => ⟨S10000, .i1⟩
  | 68 => ⟨S_, .i32⟩
  | 69 => ⟨S10000, .i32⟩
  | 70 => ⟨S10000, .i32⟩
  | 71 => ⟨S10000, .i32⟩
  | 72 => ⟨S10000x1, .i32⟩
  | 73 => ⟨S1, .i32⟩
  | 74 => ⟨S_, .i32⟩
  | 75 => ⟨S10000x1, .i32⟩
  | 76 => ⟨S10000x1, .i1⟩
  | 77 => ⟨S1x1, .i32⟩
  | 78 => ⟨S10000x1, .i32⟩
  | 79 => ⟨S10000x1, .i1⟩
  | 80 => ⟨S10000x1, .i1⟩
  | 81 => ⟨S_, .i1⟩
  | 82 => ⟨S10000, .i1⟩
  | 83 => ⟨S10000x64, .f32⟩
  | 84 => ⟨S10000x64, .i1⟩
  | 85 => ⟨S_, .f32⟩
  | 86 => ⟨S10000x64, .f32⟩
  | 87 => ⟨S10000x64, .f32⟩
  | 88 => ⟨S1x64x512, .f32⟩
  | 89 => ⟨S64x512, .f32⟩
  | 90 => ⟨S10000x512, .f32⟩
  | 91 => ⟨S10000x512, .f32⟩
  | 92 => ⟨S10000x1, .i32⟩
  | 93 => ⟨S10000, .i32⟩
  | 94 => ⟨S_, .i32⟩
  | 95 => ⟨S10000, .i32⟩
  | 96 => ⟨S10000, .i1⟩
  | 97 => ⟨S_, .i32⟩
  | 98 => ⟨S10000, .i32⟩
  | 99 => ⟨S10000, .i32⟩
  | 100 => ⟨S10000, .i32⟩
  | 101 => ⟨S10000x1, .i32⟩
  | 102 => ⟨S1, .i32⟩
  | 103 => ⟨S_, .i32⟩
  | 104 => ⟨S10000x1, .i32⟩
  | 105 => ⟨S10000x1, .i1⟩
  | 106 => ⟨S1x1, .i32⟩
  | 107 => ⟨S10000x1, .i32⟩
  | 108 => ⟨S10000x1, .i1⟩
  | 109 => ⟨S10000x1, .i1⟩
  | 110 => ⟨S_, .i1⟩
  | 111 => ⟨S10000, .i1⟩
  | 112 => ⟨S10000x64, .f32⟩
  | 113 => ⟨S10000x64, .i1⟩
  | 114 => ⟨S_, .f32⟩
  | 115 => ⟨S10000x64, .f32⟩
  | 116 => ⟨S10000x64, .f32⟩
  | 117 => ⟨S1x64x512, .f32⟩
  | 118 => ⟨S64x512, .f32⟩
  | 119 => ⟨S10000x512, .f32⟩
  | 120 => ⟨S10000x512, .f32⟩
  | 121 => ⟨S10000x1, .i32⟩
  | 122 => ⟨S10000, .i32⟩
  | 123 => ⟨S_, .i32⟩
  | 124 => ⟨S10000, .i32⟩
  | 125 => ⟨S10000, .i1⟩
  | 126 => ⟨S_, .i32⟩
  | 127 => ⟨S10000, .i32⟩
  | _ => ⟨S10000x64, .f32⟩

abbrev hbmTy0_3 (i : Nat) : BufTy := match i % 128 with
  | 0 => ⟨S10000, .i32⟩
  | 1 => ⟨S10000, .i32⟩
  | 2 => ⟨S10000x1, .i32⟩
  | 3 => ⟨S1, .i32⟩
  | 4 => ⟨S_, .i32⟩
  | 5 => ⟨S10000x1, .i32⟩
  | 6 => ⟨S10000x1, .i1⟩
  | 7 => ⟨S1x1, .i32⟩
  | 8 => ⟨S10000x1, .i32⟩
  | 9 => ⟨S10000x1, .i1⟩
  | 10 => ⟨S10000x1, .i1⟩
  | 11 => ⟨S_, .i1⟩
  | 12 => ⟨S10000, .i1⟩
  | 13 => ⟨S10000x64, .f32⟩
  | 14 => ⟨S10000x64, .i1⟩
  | 15 => ⟨S_, .f32⟩
  | 16 => ⟨S10000x64, .f32⟩
  | 17 => ⟨S10000x64, .f32⟩
  | 18 => ⟨S1x64x512, .f32⟩
  | 19 => ⟨S64x512, .f32⟩
  | 20 => ⟨S10000x512, .f32⟩
  | 21 => ⟨S10000x512, .f32⟩
  | 22 => ⟨S10000x1, .i32⟩
  | 23 => ⟨S10000, .i32⟩
  | 24 => ⟨S_, .i32⟩
  | 25 => ⟨S10000, .i32⟩
  | 26 => ⟨S10000, .i1⟩
  | 27 => ⟨S_, .i32⟩
  | 28 => ⟨S10000, .i32⟩
  | 29 => ⟨S10000, .i32⟩
  | 30 => ⟨S10000, .i32⟩
  | 31 => ⟨S10000x1, .i32⟩
  | 32 => ⟨S1, .i32⟩
  | 33 => ⟨S_, .i32⟩
  | 34 => ⟨S10000x1, .i32⟩
  | 35 => ⟨S10000x1, .i1⟩
  | 36 => ⟨S1x1, .i32⟩
  | 37 => ⟨S10000x1, .i32⟩
  | 38 => ⟨S10000x1, .i1⟩
  | 39 => ⟨S10000x1, .i1⟩
  | 40 => ⟨S_, .i1⟩
  | 41 => ⟨S10000, .i1⟩
  | 42 => ⟨S10000x64, .f32⟩
  | 43 => ⟨S10000x64, .i1⟩
  | 44 => ⟨S_, .f32⟩
  | 45 => ⟨S10000x64, .f32⟩
  | 46 => ⟨S10000x64, .f32⟩
  | 47 => ⟨S1x64x512, .f32⟩
  | 48 => ⟨S64x512, .f32⟩
  | 49 => ⟨S10000x512, .f32⟩
  | 50 => ⟨S10000x512, .f32⟩
  | 51 => ⟨S10000x1, .i32⟩
  | 52 => ⟨S10000, .i32⟩
  | 53 => ⟨S_, .i32⟩
  | 54 => ⟨S10000, .i32⟩
  | 55 => ⟨S10000, .i1⟩
  | 56 => ⟨S_, .i32⟩
  | 57 => ⟨S10000, .i32⟩
  | 58 => ⟨S10000, .i32⟩
  | 59 => ⟨S10000, .i32⟩
  | 60 => ⟨S10000x1, .i32⟩
  | 61 => ⟨S1, .i32⟩
  | 62 => ⟨S_, .i32⟩
  | 63 => ⟨S10000x1, .i32⟩
  | 64 => ⟨S10000x1, .i1⟩
  | 65 => ⟨S1x1, .i32⟩
  | 66 => ⟨S10000x1, .i32⟩
  | 67 => ⟨S10000x1, .i1⟩
  | 68 => ⟨S10000x1, .i1⟩
  | 69 => ⟨S_, .i1⟩
  | 70 => ⟨S10000, .i1⟩
  | 71 => ⟨S10000x64, .f32⟩
  | 72 => ⟨S10000x64, .i1⟩
  | 73 => ⟨S_, .f32⟩
  | 74 => ⟨S10000x64, .f32⟩
  | 75 => ⟨S10000x64, .f32⟩
  | 76 => ⟨S1x64x512, .f32⟩
  | 77 => ⟨S64x512, .f32⟩
  | 78 => ⟨S10000x512, .f32⟩
  | 79 => ⟨S10000x512, .f32⟩
  | 80 => ⟨S10000x1, .i32⟩
  | 81 => ⟨S10000, .i32⟩
  | 82 => ⟨S_, .i32⟩
  | 83 => ⟨S10000, .i32⟩
  | 84 => ⟨S10000, .i1⟩
  | 85 => ⟨S_, .i32⟩
  | 86 => ⟨S10000, .i32⟩
  | 87 => ⟨S10000, .i32⟩
  | 88 => ⟨S10000, .i32⟩
  | 89 => ⟨S10000x1, .i32⟩
  | 90 => ⟨S1, .i32⟩
  | 91 => ⟨S_, .i32⟩
  | 92 => ⟨S10000x1, .i32⟩
  | 93 => ⟨S10000x1, .i1⟩
  | 94 => ⟨S1x1, .i32⟩
  | 95 => ⟨S10000x1, .i32⟩
  | 96 => ⟨S10000x1, .i1⟩
  | 97 => ⟨S10000x1, .i1⟩
  | 98 => ⟨S_, .i1⟩
  | 99 => ⟨S10000, .i1⟩
  | 100 => ⟨S10000x64, .f32⟩
  | 101 => ⟨S10000x64, .i1⟩
  | 102 => ⟨S_, .f32⟩
  | 103 => ⟨S10000x64, .f32⟩
  | 104 => ⟨S10000x64, .f32⟩
  | 105 => ⟨S1x64x512, .f32⟩
  | 106 => ⟨S64x512, .f32⟩
  | 107 => ⟨S10000x512, .f32⟩
  | 108 => ⟨S10000x512, .f32⟩
  | 109 => ⟨S10000x1, .i32⟩
  | 110 => ⟨S10000, .i32⟩
  | 111 => ⟨S_, .i32⟩
  | 112 => ⟨S10000, .i32⟩
  | 113 => ⟨S10000, .i1⟩
  | 114 => ⟨S_, .i32⟩
  | 115 => ⟨S10000, .i32⟩
  | 116 => ⟨S10000, .i32⟩
  | 117 => ⟨S10000, .i32⟩
  | 118 => ⟨S10000x1, .i32⟩
  | 119 => ⟨S1, .i32⟩
  | 120 => ⟨S_, .i32⟩
  | 121 => ⟨S10000x1, .i32⟩
  | 122 => ⟨S10000x1, .i1⟩
  | 123 => ⟨S1x1, .i32⟩
  | 124 => ⟨S10000x1, .i32⟩
  | 125 => ⟨S10000x1, .i1⟩
  | 126 => ⟨S10000x1, .i1⟩
  | 127 => ⟨S_, .i1⟩
  | _ => ⟨S10000x64, .f32⟩

abbrev hbmTy0_4 (i : Nat) : BufTy := match i % 128 with
  | 0 => ⟨S10000, .i1⟩
  | 1 => ⟨S10000x64, .f32⟩
  | 2 => ⟨S10000x64, .i1⟩
  | 3 => ⟨S_, .f32⟩
  | 4 => ⟨S10000x64, .f32⟩
  | 5 => ⟨S10000x64, .f32⟩
  | 6 => ⟨S1x64x512, .f32⟩
  | 7 => ⟨S64x512, .f32⟩
  | 8 => ⟨S10000x512, .f32⟩
  | 9 => ⟨S10000x512, .f32⟩
  | 10 => ⟨S10000x1, .i32⟩
  | 11 => ⟨S10000, .i32⟩
  | 12 => ⟨S_, .i32⟩
  | 13 => ⟨S10000, .i32⟩
  | 14 => ⟨S10000, .i1⟩
  | 15 => ⟨S_, .i32⟩
  | 16 => ⟨S10000, .i32⟩
  | 17 => ⟨S10000, .i32⟩
  | 18 => ⟨S10000, .i32⟩
  | 19 => ⟨S10000x1, .i32⟩
  | 20 => ⟨S1, .i32⟩
  | 21 => ⟨S_, .i32⟩
  | 22 => ⟨S10000x1, .i32⟩
  | 23 => ⟨S10000x1, .i1⟩
  | 24 => ⟨S1x1, .i32⟩
  | 25 => ⟨S10000x1, .i32⟩
  | 26 => ⟨S10000x1, .i1⟩
  | 27 => ⟨S10000x1, .i1⟩
  | 28 => ⟨S_, .i1⟩
  | 29 => ⟨S10000, .i1⟩
  | 30 => ⟨S10000x64, .f32⟩
  | 31 => ⟨S10000x64, .i1⟩
  | 32 => ⟨S_, .f32⟩
  | 33 => ⟨S10000x64, .f32⟩
  | 34 => ⟨S10000x64, .f32⟩
  | 35 => ⟨S1x64x512, .f32⟩
  | 36 => ⟨S64x512, .f32⟩
  | 37 => ⟨S10000x512, .f32⟩
  | 38 => ⟨S10000x512, .f32⟩
  | 39 => ⟨S10000x1, .i32⟩
  | 40 => ⟨S10000, .i32⟩
  | 41 => ⟨S_, .i32⟩
  | 42 => ⟨S10000, .i32⟩
  | 43 => ⟨S10000, .i1⟩
  | 44 => ⟨S_, .i32⟩
  | 45 => ⟨S10000, .i32⟩
  | 46 => ⟨S10000, .i32⟩
  | 47 => ⟨S10000, .i32⟩
  | 48 => ⟨S10000x1, .i32⟩
  | 49 => ⟨S1, .i32⟩
  | 50 => ⟨S_, .i32⟩
  | 51 => ⟨S10000x1, .i32⟩
  | 52 => ⟨S10000x1, .i1⟩
  | 53 => ⟨S1x1, .i32⟩
  | 54 => ⟨S10000x1, .i32⟩
  | 55 => ⟨S10000x1, .i1⟩
  | 56 => ⟨S10000x1, .i1⟩
  | 57 => ⟨S_, .i1⟩
  | 58 => ⟨S10000, .i1⟩
  | 59 => ⟨S10000x64, .f32⟩
  | 60 => ⟨S10000x64, .i1⟩
  | 61 => ⟨S_, .f32⟩
  | 62 => ⟨S10000x64, .f32⟩
  | 63 => ⟨S10000x64, .f32⟩
  | 64 => ⟨S1x64x512, .f32⟩
  | 65 => ⟨S64x512, .f32⟩
  | 66 => ⟨S10000x512, .f32⟩
  | 67 => ⟨S10000x512, .f32⟩
  | 68 => ⟨S10000x1, .i32⟩
  | 69 => ⟨S10000, .i32⟩
  | 70 => ⟨S_, .i32⟩
  | 71 => ⟨S10000, .i32⟩
  | 72 => ⟨S10000, .i1⟩
  | 73 => ⟨S_, .i32⟩
  | 74 => ⟨S10000, .i32⟩
  | 75 => ⟨S10000, .i32⟩
  | 76 => ⟨S10000, .i32⟩
  | 77 => ⟨S10000x1, .i32⟩
  | 78 => ⟨S1, .i32⟩
  | 79 => ⟨S_, .i32⟩
  | 80 => ⟨S10000x1, .i32⟩
  | 81 => ⟨S10000x1, .i1⟩
  | 82 => ⟨S1x1, .i32⟩
  | 83 => ⟨S10000x1, .i32⟩
  | 84 => ⟨S10000x1, .i1⟩
  | 85 => ⟨S10000x1, .i1⟩
  | 86 => ⟨S_, .i1⟩
  | 87 => ⟨S10000, .i1⟩
  | 88 => ⟨S10000x64, .f32⟩
  | 89 => ⟨S10000x64, .i1⟩
  | 90 => ⟨S_, .f32⟩
  | 91 => ⟨S10000x64, .f32⟩
  | 92 => ⟨S10000x64, .f32⟩
  | 93 => ⟨S1x64x512, .f32⟩
  | 94 => ⟨S64x512, .f32⟩
  | 95 => ⟨S10000x512, .f32⟩
  | 96 => ⟨S10000x512, .f32⟩
  | 97 => ⟨S10000x1, .i32⟩
  | 98 => ⟨S10000, .i32⟩
  | 99 => ⟨S_, .i32⟩
  | 100 => ⟨S10000, .i32⟩
  | 101 => ⟨S10000, .i1⟩
  | 102 => ⟨S_, .i32⟩
  | 103 => ⟨S10000, .i32⟩
  | 104 => ⟨S10000, .i32⟩
  | 105 => ⟨S10000, .i32⟩
  | 106 => ⟨S10000x1, .i32⟩
  | 107 => ⟨S1, .i32⟩
  | 108 => ⟨S_, .i32⟩
  | 109 => ⟨S10000x1, .i32⟩
  | 110 => ⟨S10000x1, .i1⟩
  | 111 => ⟨S1x1, .i32⟩
  | 112 => ⟨S10000x1, .i32⟩
  | 113 => ⟨S10000x1, .i1⟩
  | 114 => ⟨S10000x1, .i1⟩
  | 115 => ⟨S_, .i1⟩
  | 116 => ⟨S10000, .i1⟩
  | 117 => ⟨S10000x64, .f32⟩
  | 118 => ⟨S10000x64, .i1⟩
  | 119 => ⟨S_, .f32⟩
  | 120 => ⟨S10000x64, .f32⟩
  | 121 => ⟨S10000x64, .f32⟩
  | 122 => ⟨S1x64x512, .f32⟩
  | 123 => ⟨S64x512, .f32⟩
  | 124 => ⟨S10000x512, .f32⟩
  | 125 => ⟨S10000x512, .f32⟩
  | 126 => ⟨S10000x1, .i32⟩
  | 127 => ⟨S10000, .i32⟩
  | _ => ⟨S10000x64, .f32⟩

abbrev hbmTy0_5 (i : Nat) : BufTy := match i % 128 with
  | 0 => ⟨S_, .i32⟩
  | 1 => ⟨S10000, .i32⟩
  | 2 => ⟨S10000, .i1⟩
  | 3 => ⟨S_, .i32⟩
  | 4 => ⟨S10000, .i32⟩
  | 5 => ⟨S10000, .i32⟩
  | 6 => ⟨S10000, .i32⟩
  | 7 => ⟨S10000x1, .i32⟩
  | 8 => ⟨S1, .i32⟩
  | 9 => ⟨S_, .i32⟩
  | 10 => ⟨S10000x1, .i32⟩
  | 11 => ⟨S10000x1, .i1⟩
  | 12 => ⟨S1x1, .i32⟩
  | 13 => ⟨S10000x1, .i32⟩
  | 14 => ⟨S10000x1, .i1⟩
  | 15 => ⟨S10000x1, .i1⟩
  | 16 => ⟨S_, .i1⟩
  | 17 => ⟨S10000, .i1⟩
  | 18 => ⟨S10000x64, .f32⟩
  | 19 => ⟨S10000x64, .i1⟩
  | 20 => ⟨S_, .f32⟩
  | 21 => ⟨S10000x64, .f32⟩
  | 22 => ⟨S10000x64, .f32⟩
  | 23 => ⟨S1x64x512, .f32⟩
  | 24 => ⟨S64x512, .f32⟩
  | 25 => ⟨S10000x512, .f32⟩
  | 26 => ⟨S10000x512, .f32⟩
  | 27 => ⟨S10000x1, .i32⟩
  | 28 => ⟨S10000, .i32⟩
  | 29 => ⟨S_, .i32⟩
  | 30 => ⟨S10000, .i32⟩
  | 31 => ⟨S10000, .i1⟩
  | 32 => ⟨S_, .i32⟩
  | 33 => ⟨S10000, .i32⟩
  | 34 => ⟨S10000, .i32⟩
  | 35 => ⟨S10000, .i32⟩
  | 36 => ⟨S10000x1, .i32⟩
  | 37 => ⟨S1, .i32⟩
  | 38 => ⟨S_, .i32⟩
  | 39 => ⟨S10000x1, .i32⟩
  | 40 => ⟨S10000x1, .i1⟩
  | 41 => ⟨S1x1, .i32⟩
  | 42 => ⟨S10000x1, .i32⟩
  | 43 => ⟨S10000x1, .i1⟩
  | 44 => ⟨S10000x1, .i1⟩
  | 45 => ⟨S_, .i1⟩
  | 46 => ⟨S10000, .i1⟩
  | 47 => ⟨S10000x64, .f32⟩
  | 48 => ⟨S10000x64, .i1⟩
  | 49 => ⟨S_, .f32⟩
  | 50 => ⟨S10000x64, .f32⟩
  | 51 => ⟨S10000x64, .f32⟩
  | 52 => ⟨S1x64x512, .f32⟩
  | 53 => ⟨S64x512, .f32⟩
  | 54 => ⟨S10000x512, .f32⟩
  | 55 => ⟨S10000x512, .f32⟩
  | 56 => ⟨S10000x1, .i32⟩
  | 57 => ⟨S10000, .i32⟩
  | 58 => ⟨S_, .i32⟩
  | 59 => ⟨S10000, .i32⟩
  | 60 => ⟨S10000, .i1⟩
  | 61 => ⟨S_, .i32⟩
  | 62 => ⟨S10000, .i32⟩
  | 63 => ⟨S10000, .i32⟩
  | 64 => ⟨S10000, .i32⟩
  | 65 => ⟨S10000x1, .i32⟩
  | 66 => ⟨S1, .i32⟩
  | 67 => ⟨S_, .i32⟩
  | 68 => ⟨S10000x1, .i32⟩
  | 69 => ⟨S10000x1, .i1⟩
  | 70 => ⟨S1x1, .i32⟩
  | 71 => ⟨S10000x1, .i32⟩
  | 72 => ⟨S10000x1, .i1⟩
  | 73 => ⟨S10000x1, .i1⟩
  | 74 => ⟨S_, .i1⟩
  | 75 => ⟨S10000, .i1⟩
  | 76 => ⟨S10000x64, .f32⟩
  | 77 => ⟨S10000x64, .i1⟩
  | 78 => ⟨S_, .f32⟩
  | 79 => ⟨S10000x64, .f32⟩
  | 80 => ⟨S10000x64, .f32⟩
  | 81 => ⟨S1x64x512, .f32⟩
  | 82 => ⟨S64x512, .f32⟩
  | 83 => ⟨S10000x512, .f32⟩
  | 84 => ⟨S10000x512, .f32⟩
  | 85 => ⟨S10000x1, .i32⟩
  | 86 => ⟨S10000, .i32⟩
  | 87 => ⟨S_, .i32⟩
  | 88 => ⟨S10000, .i32⟩
  | 89 => ⟨S10000, .i1⟩
  | 90 => ⟨S_, .i32⟩
  | 91 => ⟨S10000, .i32⟩
  | 92 => ⟨S10000, .i32⟩
  | 93 => ⟨S10000, .i32⟩
  | 94 => ⟨S10000x1, .i32⟩
  | 95 => ⟨S1, .i32⟩
  | 96 => ⟨S_, .i32⟩
  | 97 => ⟨S10000x1, .i32⟩
  | 98 => ⟨S10000x1, .i1⟩
  | 99 => ⟨S1x1, .i32⟩
  | 100 => ⟨S10000x1, .i32⟩
  | 101 => ⟨S10000x1, .i1⟩
  | 102 => ⟨S10000x1, .i1⟩
  | 103 => ⟨S_, .i1⟩
  | 104 => ⟨S10000, .i1⟩
  | 105 => ⟨S10000x64, .f32⟩
  | 106 => ⟨S10000x64, .i1⟩
  | 107 => ⟨S_, .f32⟩
  | 108 => ⟨S10000x64, .f32⟩
  | 109 => ⟨S10000x64, .f32⟩
  | 110 => ⟨S1x64x512, .f32⟩
  | 111 => ⟨S64x512, .f32⟩
  | 112 => ⟨S10000x512, .f32⟩
  | 113 => ⟨S10000x512, .f32⟩
  | 114 => ⟨S10000x1, .i32⟩
  | 115 => ⟨S10000, .i32⟩
  | 116 => ⟨S_, .i32⟩
  | 117 => ⟨S10000, .i32⟩
  | 118 => ⟨S10000, .i1⟩
  | 119 => ⟨S_, .i32⟩
  | 120 => ⟨S10000, .i32⟩
  | 121 => ⟨S10000, .i32⟩
  | 122 => ⟨S10000, .i32⟩
  | 123 => ⟨S10000x1, .i32⟩
  | 124 => ⟨S1, .i32⟩
  | 125 => ⟨S_, .i32⟩
  | 126 => ⟨S10000x1, .i32⟩
  | 127 => ⟨S10000x1, .i1⟩
  | _ => ⟨S10000x64, .f32⟩

abbrev hbmTy0_6 (i : Nat) : BufTy := match i % 128 with
  | 0 => ⟨S1x1, .i32⟩
  | 1 => ⟨S10000x1, .i32⟩
  | 2 => ⟨S10000x1, .i1⟩
  | 3 => ⟨S10000x1, .i1⟩
  | 4 => ⟨S_, .i1⟩
  | 5 => ⟨S10000, .i1⟩
  | 6 => ⟨S10000x64, .f32⟩
  | 7 => ⟨S10000x64, .i1⟩
  | 8 => ⟨S_, .f32⟩
  | 9 => ⟨S10000x64, .f32⟩
  | 10 => ⟨S10000x64, .f32⟩
  | 11 => ⟨S1x64x512, .f32⟩
  | 12 => ⟨S64x512, .f32⟩
  | 13 => ⟨S10000x512, .f32⟩
  | 14 => ⟨S10000x512, .f32⟩
  | 15 => ⟨S10000x1, .i32⟩
  | 16 => ⟨S10000, .i32⟩
  | 17 => ⟨S_, .i32⟩
  | 18 => ⟨S10000, .i32⟩
  | 19 => ⟨S10000, .i1⟩
  | 20 => ⟨S_, .i32⟩
  | 21 => ⟨S10000, .i32⟩
  | 22 => ⟨S10000, .i32⟩
  | 23 => ⟨S10000, .i32⟩
  | 24 => ⟨S10000x1, .i32⟩
  | 25 => ⟨S1, .i32⟩
  | 26 => ⟨S_, .i32⟩
  | 27 => ⟨S10000x1, .i32⟩
  | 28 => ⟨S10000x1, .i1⟩
  | 29 => ⟨S1x1, .i32⟩
  | 30 => ⟨S10000x1, .i32⟩
  | 31 => ⟨S10000x1, .i1⟩
  | 32 => ⟨S10000x1, .i1⟩
  | 33 => ⟨S_, .i1⟩
  | 34 => ⟨S10000, .i1⟩
  | 35 => ⟨S10000x64, .f32⟩
  | 36 => ⟨S10000x64, .i1⟩
  | 37 => ⟨S_, .f32⟩
  | 38 => ⟨S10000x64, .f32⟩
  | 39 => ⟨S10000x64, .f32⟩
  | 40 => ⟨S1x64x512, .f32⟩
  | 41 => ⟨S64x512, .f32⟩
  | 42 => ⟨S10000x512, .f32⟩
  | 43 => ⟨S10000x512, .f32⟩
  | 44 => ⟨S10000x1, .i32⟩
  | 45 => ⟨S10000, .i32⟩
  | 46 => ⟨S_, .i32⟩
  | 47 => ⟨S10000, .i32⟩
  | 48 => ⟨S10000, .i1⟩
  | 49 => ⟨S_, .i32⟩
  | 50 => ⟨S10000, .i32⟩
  | 51 => ⟨S10000, .i32⟩
  | 52 => ⟨S10000, .i32⟩
  | 53 => ⟨S10000x1, .i32⟩
  | 54 => ⟨S1, .i32⟩
  | 55 => ⟨S_, .i32⟩
  | 56 => ⟨S10000x1, .i32⟩
  | 57 => ⟨S10000x1, .i1⟩
  | 58 => ⟨S1x1, .i32⟩
  | 59 => ⟨S10000x1, .i32⟩
  | 60 => ⟨S10000x1, .i1⟩
  | 61 => ⟨S10000x1, .i1⟩
  | 62 => ⟨S_, .i1⟩
  | 63 => ⟨S10000, .i1⟩
  | 64 => ⟨S10000x64, .f32⟩
  | 65 => ⟨S10000x64, .i1⟩
  | 66 => ⟨S_, .f32⟩
  | 67 => ⟨S10000x64, .f32⟩
  | 68 => ⟨S10000x64, .f32⟩
  | 69 => ⟨S1x64x512, .f32⟩
  | 70 => ⟨S64x512, .f32⟩
  | 71 => ⟨S10000x512, .f32⟩
  | 72 => ⟨S10000x512, .f32⟩
  | 73 => ⟨S_, .f32⟩
  | 74 => ⟨S10000x8, .f32⟩
  | 75 => ⟨S10000x8, .i1⟩
  | 76 => ⟨S80000x1, .i1⟩
  | 77 => ⟨S80000x1, .f32⟩
  | 78 => ⟨S80000x64, .f32⟩
  | 79 => ⟨S80000x64, .f32⟩
  | 80 => ⟨S80000x64, .f32⟩
  | 81 => ⟨S80000x8, .f32⟩
  | 82 => ⟨S80000x8, .f32⟩
  | 83 => ⟨S80000x8, .f32⟩
  | 84 => ⟨S_, .f32⟩
  | 85 => ⟨S80000, .f32⟩
  | 86 => ⟨S80000x1, .f32⟩
  | 87 => ⟨S_, .f32⟩
  | 88 => ⟨S80000x1, .f32⟩
  | 89 => ⟨S80000x1, .f32⟩
  | 90 => ⟨S80000x64, .f32⟩
  | 91 => ⟨S80000x64, .f32⟩
  | 92 => ⟨S80000x64, .f32⟩
  | 93 => ⟨S_, .f32⟩
  | 94 => ⟨S80000, .f32⟩
  | 95 => ⟨S80000x1, .f32⟩
  | 96 => ⟨S_, .f32⟩
  | 97 => ⟨S80000x1, .f32⟩
  | 98 => ⟨S80000x1, .f32⟩
  | 99 => ⟨S80000x64, .f32⟩
  | 100 => ⟨S80000x64, .f32⟩
  | 101 => ⟨S_, .f32⟩
  | 102 => ⟨S80000x1, .f32⟩
  | 103 => ⟨S80000x1, .f32⟩
  | 104 => ⟨S80000x1, .f32⟩
  | 105 => ⟨S80000x64, .f32⟩
  | 106 => ⟨S80000x64, .f32⟩
  | 107 => ⟨S80000x64, .f32⟩
  | 108 => ⟨S80000x64, .f32⟩
  | 109 => ⟨S_, .f32⟩
  | 110 => ⟨S80000x64, .f32⟩
  | 111 => ⟨S80000x64, .f32⟩
  | 112 => ⟨S_, .f32⟩
  | 113 => ⟨S80000x64, .f32⟩
  | 114 => ⟨S80000x64, .f32⟩
  | 115 => ⟨S80000x64, .f32⟩
  | 116 => ⟨S_, .f32⟩
  | 117 => ⟨S80000x64, .f32⟩
  | 118 => ⟨S1x64, .f32⟩
  | 119 => ⟨S80000x64, .f32⟩
  | 120 => ⟨S80000x64, .f32⟩
  | 121 => ⟨S80000x1, .i32⟩
  | 122 => ⟨S80000, .i32⟩
  | 123 => ⟨S_, .i32⟩
  | 124 => ⟨S80000, .i32⟩
  | 125 => ⟨S80000, .i1⟩
  | 126 => ⟨S_, .i32⟩
  | 127 => ⟨S80000, .i32⟩
  | _ => ⟨S10000x64, .f32⟩

abbrev hbmTy0_7 (i : Nat) : BufTy := match i % 128 with
  | 0 => ⟨S80000, .i32⟩
  | 1 => ⟨S80000, .i32⟩
  | 2 => ⟨S80000x1, .i32⟩
  | 3 => ⟨S1, .i32⟩
  | 4 => ⟨S_, .i32⟩
  | 5 => ⟨S80000x1, .i32⟩
  | 6 => ⟨S80000x1, .i1⟩
  | 7 => ⟨S1x1, .i32⟩
  | 8 => ⟨S80000x1, .i32⟩
  | 9 => ⟨S80000x1, .i1⟩
  | 10 => ⟨S80000x1, .i1⟩
  | 11 => ⟨S_, .i1⟩
  | 12 => ⟨S80000, .i1⟩
  | 13 => ⟨S80000x64, .f32⟩
  | 14 => ⟨S80000x64, .i1⟩
  | 15 => ⟨S_, .f32⟩
  | 16 => ⟨S80000x64, .f32⟩
  | 17 => ⟨S80000x64, .f32⟩
  | 18 => ⟨S1x64x64, .f32⟩
  | 19 => ⟨S64x64, .f32⟩
  | 20 => ⟨S80000x64, .f32⟩
  | 21 => ⟨S80000x64, .f32⟩
  | 22 => ⟨S80000x1, .i32⟩
  | 23 => ⟨S80000, .i32⟩
  | 24 => ⟨S_, .i32⟩
  | 25 => ⟨S80000, .i32⟩
  | 26 => ⟨S80000, .i1⟩
  | 27 => ⟨S_, .i32⟩
  | 28 => ⟨S80000, .i32⟩
  | 29 => ⟨S80000, .i32⟩
  | 30 => ⟨S80000, .i32⟩
  | 31 => ⟨S80000x1, .i32⟩
  | 32 => ⟨S1, .i32⟩
  | 33 => ⟨S_, .i32⟩
  | 34 => ⟨S80000x1, .i32⟩
  | 35 => ⟨S80000x1, .i1⟩
  | 36 => ⟨S1x1, .i32⟩
  | 37 => ⟨S80000x1, .i32⟩
  | 38 => ⟨S80000x1, .i1⟩
  | 39 => ⟨S80000x1, .i1⟩
  | 40 => ⟨S_, .i1⟩
  | 41 => ⟨S80000, .i1⟩
  | 42 => ⟨S80000x64, .f32⟩
  | 43 => ⟨S80000x64, .i1⟩
  | 44 => ⟨S_, .f32⟩
  | 45 => ⟨S80000x64, .f32⟩
  | 46 => ⟨S80000x64, .f32⟩
  | 47 => ⟨S1x64x64, .f32⟩
  | 48 => ⟨S64x64, .f32⟩
  | 49 => ⟨S80000x64, .f32⟩
  | 50 => ⟨S80000x64, .f32⟩
  | 51 => ⟨S80000x1, .i32⟩
  | 52 => ⟨S80000, .i32⟩
  | 53 => ⟨S_, .i32⟩
  | 54 => ⟨S80000, .i32⟩
  | 55 => ⟨S80000, .i1⟩
  | 56 => ⟨S_, .i32⟩
  | 57 => ⟨S80000, .i32⟩
  | 58 => ⟨S80000, .i32⟩
  | 59 => ⟨S80000, .i32⟩
  | 60 => ⟨S80000x1, .i32⟩
  | 61 => ⟨S1, .i32⟩
  | 62 => ⟨S_, .i32⟩
  | 63 => ⟨S80000x1, .i32⟩
  | 64 => ⟨S80000x1, .i1⟩
  | 65 => ⟨S1x1, .i32⟩
  | 66 => ⟨S80000x1, .i32⟩
  | 67 => ⟨S80000x1, .i1⟩
  | 68 => ⟨S80000x1, .i1⟩
  | 69 => ⟨S_, .i1⟩
  | 70 => ⟨S80000, .i1⟩
  | 71 => ⟨S80000x64, .f32⟩
  | 72 => ⟨S80000x64, .i1⟩
  | 73 => ⟨S_, .f32⟩
  | 74 => ⟨S80000x64, .f32⟩
  | 75 => ⟨S80000x64, .f32⟩
  | 76 => ⟨S1x64x64, .f32⟩
  | 77 => ⟨S64x64, .f32⟩
  | 78 => ⟨S80000x64, .f32⟩
  | 79 => ⟨S80000x64, .f32⟩
  | 80 => ⟨S80000x1, .i32⟩
  | 81 => ⟨S80000, .i32⟩
  | 82 => ⟨S_, .i32⟩
  | 83 => ⟨S80000, .i32⟩
  | 84 => ⟨S80000, .i1⟩
  | 85 => ⟨S_, .i32⟩
  | 86 => ⟨S80000, .i32⟩
  | 87 => ⟨S80000, .i32⟩
  | 88 => ⟨S80000, .i32⟩
  | 89 => ⟨S80000x1, .i32⟩
  | 90 => ⟨S1, .i32⟩
  | 91 => ⟨S_, .i32⟩
  | 92 => ⟨S80000x1, .i32⟩
  | 93 => ⟨S80000x1, .i1⟩
  | 94 => ⟨S1x1, .i32⟩
  | 95 => ⟨S80000x1, .i32⟩
  | 96 => ⟨S80000x1, .i1⟩
  | 97 => ⟨S80000x1, .i1⟩
  | 98 => ⟨S_, .i1⟩
  | 99 => ⟨S80000, .i1⟩
  | 100 => ⟨S80000x64, .f32⟩
  | 101 => ⟨S80000x64, .i1⟩
  | 102 => ⟨S_, .f32⟩
  | 103 => ⟨S80000x64, .f32⟩
  | 104 => ⟨S80000x64, .f32⟩
  | 105 => ⟨S1x64x64, .f32⟩
  | 106 => ⟨S64x64, .f32⟩
  | 107 => ⟨S80000x64, .f32⟩
  | 108 => ⟨S80000x64, .f32⟩
  | 109 => ⟨S80000x1, .i32⟩
  | 110 => ⟨S80000, .i32⟩
  | 111 => ⟨S_, .i32⟩
  | 112 => ⟨S80000, .i32⟩
  | 113 => ⟨S80000, .i1⟩
  | 114 => ⟨S_, .i32⟩
  | 115 => ⟨S80000, .i32⟩
  | 116 => ⟨S80000, .i32⟩
  | 117 => ⟨S80000, .i32⟩
  | 118 => ⟨S80000x1, .i32⟩
  | 119 => ⟨S1, .i32⟩
  | 120 => ⟨S_, .i32⟩
  | 121 => ⟨S80000x1, .i32⟩
  | 122 => ⟨S80000x1, .i1⟩
  | 123 => ⟨S1x1, .i32⟩
  | 124 => ⟨S80000x1, .i32⟩
  | 125 => ⟨S80000x1, .i1⟩
  | 126 => ⟨S80000x1, .i1⟩
  | 127 => ⟨S_, .i1⟩
  | _ => ⟨S10000x64, .f32⟩

abbrev hbmTy0_8 (i : Nat) : BufTy := match i % 128 with
  | 0 => ⟨S80000, .i1⟩
  | 1 => ⟨S80000x64, .f32⟩
  | 2 => ⟨S80000x64, .i1⟩
  | 3 => ⟨S_, .f32⟩
  | 4 => ⟨S80000x64, .f32⟩
  | 5 => ⟨S80000x64, .f32⟩
  | 6 => ⟨S1x64x64, .f32⟩
  | 7 => ⟨S64x64, .f32⟩
  | 8 => ⟨S80000x64, .f32⟩
  | 9 => ⟨S80000x64, .f32⟩
  | 10 => ⟨S80000x1, .i32⟩
  | 11 => ⟨S80000, .i32⟩
  | 12 => ⟨S_, .i32⟩
  | 13 => ⟨S80000, .i32⟩
  | 14 => ⟨S80000, .i1⟩
  | 15 => ⟨S_, .i32⟩
  | 16 => ⟨S80000, .i32⟩
  | 17 => ⟨S80000, .i32⟩
  | 18 => ⟨S80000, .i32⟩
  | 19 => ⟨S80000x1, .i32⟩
  | 20 => ⟨S1, .i32⟩
  | 21 => ⟨S_, .i32⟩
  | 22 => ⟨S80000x1, .i32⟩
  | 23 => ⟨S80000x1, .i1⟩
  | 24 => ⟨S1x1, .i32⟩
  | 25 => ⟨S80000x1, .i32⟩
  | 26 => ⟨S80000x1, .i1⟩
  | 27 => ⟨S80000x1, .i1⟩
  | 28 => ⟨S_, .i1⟩
  | 29 => ⟨S80000, .i1⟩
  | 30 => ⟨S80000x64, .f32⟩
  | 31 => ⟨S80000x64, .i1⟩
  | 32 => ⟨S_, .f32⟩
  | 33 => ⟨S80000x64, .f32⟩
  | 34 => ⟨S80000x64, .f32⟩
  | 35 => ⟨S1x64x64, .f32⟩
  | 36 => ⟨S64x64, .f32⟩
  | 37 => ⟨S80000x64, .f32⟩
  | 38 => ⟨S80000x64, .f32⟩
  | 39 => ⟨S80000x1, .i32⟩
  | 40 => ⟨S80000, .i32⟩
  | 41 => ⟨S_, .i32⟩
  | 42 => ⟨S80000, .i32⟩
  | 43 => ⟨S80000, .i1⟩
  | 44 => ⟨S_, .i32⟩
  | 45 => ⟨S80000, .i32⟩
  | 46 => ⟨S80000, .i32⟩
  | 47 => ⟨S80000, .i32⟩
  | 48 => ⟨S80000x1, .i32⟩
  | 49 => ⟨S1, .i32⟩
  | 50 => ⟨S_, .i32⟩
  | 51 => ⟨S80000x1, .i32⟩
  | 52 => ⟨S80000x1, .i1⟩
  | 53 => ⟨S1x1, .i32⟩
  | 54 => ⟨S80000x1, .i32⟩
  | 55 => ⟨S80000x1, .i1⟩
  | 56 => ⟨S80000x1, .i1⟩
  | 57 => ⟨S_, .i1⟩
  | 58 => ⟨S80000, .i1⟩
  | 59 => ⟨S80000x64, .f32⟩
  | 60 => ⟨S80000x64, .i1⟩
  | 61 => ⟨S_, .f32⟩
  | 62 => ⟨S80000x64, .f32⟩
  | 63 => ⟨S80000x64, .f32⟩
  | 64 => ⟨S1x64x64, .f32⟩
  | 65 => ⟨S64x64, .f32⟩
  | 66 => ⟨S80000x64, .f32⟩
  | 67 => ⟨S80000x64, .f32⟩
  | 68 => ⟨S80000x1, .i32⟩
  | 69 => ⟨S80000, .i32⟩
  | 70 => ⟨S_, .i32⟩
  | 71 => ⟨S80000, .i32⟩
  | 72 => ⟨S80000, .i1⟩
  | 73 => ⟨S_, .i32⟩
  | 74 => ⟨S80000, .i32⟩
  | 75 => ⟨S80000, .i32⟩
  | 76 => ⟨S80000, .i32⟩
  | 77 => ⟨S80000x1, .i32⟩
  | 78 => ⟨S1, .i32⟩
  | 79 => ⟨S_, .i32⟩
  | 80 => ⟨S80000x1, .i32⟩
  | 81 => ⟨S80000x1, .i1⟩
  | 82 => ⟨S1x1, .i32⟩
  | 83 => ⟨S80000x1, .i32⟩
  | 84 => ⟨S80000x1, .i1⟩
  | 85 => ⟨S80000x1, .i1⟩
  | 86 => ⟨S_, .i1⟩
  | 87 => ⟨S80000, .i1⟩
  | 88 => ⟨S80000x64, .f32⟩
  | 89 => ⟨S80000x64, .i1⟩
  | 90 => ⟨S_, .f32⟩
  | 91 => ⟨S80000x64, .f32⟩
  | 92 => ⟨S80000x64, .f32⟩
  | 93 => ⟨S1x64x64, .f32⟩
  | 94 => ⟨S64x64, .f32⟩
  | 95 => ⟨S80000x64, .f32⟩
  | 96 => ⟨S80000x64, .f32⟩
  | 97 => ⟨S80000x1, .i32⟩
  | 98 => ⟨S80000, .i32⟩
  | 99 => ⟨S_, .i32⟩
  | 100 => ⟨S80000, .i32⟩
  | 101 => ⟨S80000, .i1⟩
  | 102 => ⟨S_, .i32⟩
  | 103 => ⟨S80000, .i32⟩
  | 104 => ⟨S80000, .i32⟩
  | 105 => ⟨S80000, .i32⟩
  | 106 => ⟨S80000x1, .i32⟩
  | 107 => ⟨S1, .i32⟩
  | 108 => ⟨S_, .i32⟩
  | 109 => ⟨S80000x1, .i32⟩
  | 110 => ⟨S80000x1, .i1⟩
  | 111 => ⟨S1x1, .i32⟩
  | 112 => ⟨S80000x1, .i32⟩
  | 113 => ⟨S80000x1, .i1⟩
  | 114 => ⟨S80000x1, .i1⟩
  | 115 => ⟨S_, .i1⟩
  | 116 => ⟨S80000, .i1⟩
  | 117 => ⟨S80000x64, .f32⟩
  | 118 => ⟨S80000x64, .i1⟩
  | 119 => ⟨S_, .f32⟩
  | 120 => ⟨S80000x64, .f32⟩
  | 121 => ⟨S80000x64, .f32⟩
  | 122 => ⟨S1x64x64, .f32⟩
  | 123 => ⟨S64x64, .f32⟩
  | 124 => ⟨S80000x64, .f32⟩
  | 125 => ⟨S80000x64, .f32⟩
  | 126 => ⟨S80000x1, .i32⟩
  | 127 => ⟨S80000, .i32⟩
  | _ => ⟨S10000x64, .f32⟩

abbrev hbmTy0_9 (i : Nat) : BufTy := match i % 128 with
  | 0 => ⟨S_, .i32⟩
  | 1 => ⟨S80000, .i32⟩
  | 2 => ⟨S80000, .i1⟩
  | 3 => ⟨S_, .i32⟩
  | 4 => ⟨S80000, .i32⟩
  | 5 => ⟨S80000, .i32⟩
  | 6 => ⟨S80000, .i32⟩
  | 7 => ⟨S80000x1, .i32⟩
  | 8 => ⟨S1, .i32⟩
  | 9 => ⟨S_, .i32⟩
  | 10 => ⟨S80000x1, .i32⟩
  | 11 => ⟨S80000x1, .i1⟩
  | 12 => ⟨S1x1, .i32⟩
  | 13 => ⟨S80000x1, .i32⟩
  | 14 => ⟨S80000x1, .i1⟩
  | 15 => ⟨S80000x1, .i1⟩
  | 16 => ⟨S_, .i1⟩
  | 17 => ⟨S80000, .i1⟩
  | 18 => ⟨S80000x64, .f32⟩
  | 19 => ⟨S80000x64, .i1⟩
  | 20 => ⟨S_, .f32⟩
  | 21 => ⟨S80000x64, .f32⟩
  | 22 => ⟨S80000x64, .f32⟩
  | 23 => ⟨S1x64x64, .f32⟩
  | 24 => ⟨S64x64, .f32⟩
  | 25 => ⟨S80000x64, .f32⟩
  | 26 => ⟨S80000x64, .f32⟩
  | 27 => ⟨S80000x1, .i32⟩
  | 28 => ⟨S80000, .i32⟩
  | 29 => ⟨S_, .i32⟩
  | 30 => ⟨S80000, .i32⟩
  | 31 => ⟨S80000, .i1⟩
  | 32 => ⟨S_, .i32⟩
  | 33 => ⟨S80000, .i32⟩
  | 34 => ⟨S80000, .i32⟩
  | 35 => ⟨S80000, .i32⟩
  | 36 => ⟨S80000x1, .i32⟩
  | 37 => ⟨S1, .i32⟩
  | 38 => ⟨S_, .i32⟩
  | 39 => ⟨S80000x1, .i32⟩
  | 40 => ⟨S80000x1, .i1⟩
  | 41 => ⟨S1x1, .i32⟩
  | 42 => ⟨S80000x1, .i32⟩
  | 43 => ⟨S80000x1, .i1⟩
  | 44 => ⟨S80000x1, .i1⟩
  | 45 => ⟨S_, .i1⟩
  | 46 => ⟨S80000, .i1⟩
  | 47 => ⟨S80000x64, .f32⟩
  | 48 => ⟨S80000x64, .i1⟩
  | 49 => ⟨S_, .f32⟩
  | 50 => ⟨S80000x64, .f32⟩
  | 51 => ⟨S80000x64, .f32⟩
  | 52 => ⟨S1x64x64, .f32⟩
  | 53 => ⟨S64x64, .f32⟩
  | 54 => ⟨S80000x64, .f32⟩
  | 55 => ⟨S80000x64, .f32⟩
  | 56 => ⟨S80000x1, .i32⟩
  | 57 => ⟨S80000, .i32⟩
  | 58 => ⟨S_, .i32⟩
  | 59 => ⟨S80000, .i32⟩
  | 60 => ⟨S80000, .i1⟩
  | 61 => ⟨S_, .i32⟩
  | 62 => ⟨S80000, .i32⟩
  | 63 => ⟨S80000, .i32⟩
  | 64 => ⟨S80000, .i32⟩
  | 65 => ⟨S80000x1, .i32⟩
  | 66 => ⟨S1, .i32⟩
  | 67 => ⟨S_, .i32⟩
  | 68 => ⟨S80000x1, .i32⟩
  | 69 => ⟨S80000x1, .i1⟩
  | 70 => ⟨S1x1, .i32⟩
  | 71 => ⟨S80000x1, .i32⟩
  | 72 => ⟨S80000x1, .i1⟩
  | 73 => ⟨S80000x1, .i1⟩
  | 74 => ⟨S_, .i1⟩
  | 75 => ⟨S80000, .i1⟩
  | 76 => ⟨S80000x64, .f32⟩
  | 77 => ⟨S80000x64, .i1⟩
  | 78 => ⟨S_, .f32⟩
  | 79 => ⟨S80000x64, .f32⟩
  | 80 => ⟨S80000x64, .f32⟩
  | 81 => ⟨S1x64x64, .f32⟩
  | 82 => ⟨S64x64, .f32⟩
  | 83 => ⟨S80000x64, .f32⟩
  | 84 => ⟨S80000x64, .f32⟩
  | 85 => ⟨S80000x1, .i32⟩
  | 86 => ⟨S80000, .i32⟩
  | 87 => ⟨S_, .i32⟩
  | 88 => ⟨S80000, .i32⟩
  | 89 => ⟨S80000, .i1⟩
  | 90 => ⟨S_, .i32⟩
  | 91 => ⟨S80000, .i32⟩
  | 92 => ⟨S80000, .i32⟩
  | 93 => ⟨S80000, .i32⟩
  | 94 => ⟨S80000x1, .i32⟩
  | 95 => ⟨S1, .i32⟩
  | 96 => ⟨S_, .i32⟩
  | 97 => ⟨S80000x1, .i32⟩
  | 98 => ⟨S80000x1, .i1⟩
  | 99 => ⟨S1x1, .i32⟩
  | 100 => ⟨S80000x1, .i32⟩
  | 101 => ⟨S80000x1, .i1⟩
  | 102 => ⟨S80000x1, .i1⟩
  | 103 => ⟨S_, .i1⟩
  | 104 => ⟨S80000, .i1⟩
  | 105 => ⟨S80000x64, .f32⟩
  | 106 => ⟨S80000x64, .i1⟩
  | 107 => ⟨S_, .f32⟩
  | 108 => ⟨S80000x64, .f32⟩
  | 109 => ⟨S80000x64, .f32⟩
  | 110 => ⟨S1x64x64, .f32⟩
  | 111 => ⟨S64x64, .f32⟩
  | 112 => ⟨S80000x64, .f32⟩
  | 113 => ⟨S80000x64, .f32⟩
  | 114 => ⟨S80000x1, .i32⟩
  | 115 => ⟨S80000, .i32⟩
  | 116 => ⟨S_, .i32⟩
  | 117 => ⟨S80000, .i32⟩
  | 118 => ⟨S80000, .i1⟩
  | 119 => ⟨S_, .i32⟩
  | 120 => ⟨S80000, .i32⟩
  | 121 => ⟨S80000, .i32⟩
  | 122 => ⟨S80000, .i32⟩
  | 123 => ⟨S80000x1, .i32⟩
  | 124 => ⟨S1, .i32⟩
  | 125 => ⟨S_, .i32⟩
  | 126 => ⟨S80000x1, .i32⟩
  | 127 => ⟨S80000x1, .i1⟩
  | _ => ⟨S10000x64, .f32⟩

abbrev hbmTy0_10 (i : Nat) : BufTy := match i % 128 with
  | 0 => ⟨S1x1, .i32⟩
  | 1 => ⟨S80000x1, .i32⟩
  | 2 => ⟨S80000x1, .i1⟩
  | 3 => ⟨S80000x1, .i1⟩
  | 4 => ⟨S_, .i1⟩
  | 5 => ⟨S80000, .i1⟩
  | 6 => ⟨S80000x64, .f32⟩
  | 7 => ⟨S80000x64, .i1⟩
  | 8 => ⟨S_, .f32⟩
  | 9 => ⟨S80000x64, .f32⟩
  | 10 => ⟨S80000x64, .f32⟩
  | 11 => ⟨S1x64x64, .f32⟩
  | 12 => ⟨S64x64, .f32⟩
  | 13 => ⟨S80000x64, .f32⟩
  | 14 => ⟨S80000x64, .f32⟩
  | 15 => ⟨S80000x1, .i32⟩
  | 16 => ⟨S80000, .i32⟩
  | 17 => ⟨S_, .i32⟩
  | 18 => ⟨S80000, .i32⟩
  | 19 => ⟨S80000, .i1⟩
  | 20 => ⟨S_, .i32⟩
  | 21 => ⟨S80000, .i32⟩
  | 22 => ⟨S80000, .i32⟩
  | 23 => ⟨S80000, .i32⟩
  | 24 => ⟨S80000x1, .i32⟩
  | 25 => ⟨S1, .i32⟩
  | 26 => ⟨S_, .i32⟩
  | 27 => ⟨S80000x1, .i32⟩
  | 28 => ⟨S80000x1, .i1⟩
  | 29 => ⟨S1x1, .i32⟩
  | 30 => ⟨S80000x1, .i32⟩
  | 31 => ⟨S80000x1, .i1⟩
  | 32 => ⟨S80000x1, .i1⟩
  | 33 => ⟨S_, .i1⟩
  | 34 => ⟨S80000, .i1⟩
  | 35 => ⟨S80000x64, .f32⟩
  | 36 => ⟨S80000x64, .i1⟩
  | 37 => ⟨S_, .f32⟩
  | 38 => ⟨S80000x64, .f32⟩
  | 39 => ⟨S80000x64, .f32⟩
  | 40 => ⟨S1x64x64, .f32⟩
  | 41 => ⟨S64x64, .f32⟩
  | 42 => ⟨S80000x64, .f32⟩
  | 43 => ⟨S80000x64, .f32⟩
  | 44 => ⟨S80000x1, .i32⟩
  | 45 => ⟨S80000, .i32⟩
  | 46 => ⟨S_, .i32⟩
  | 47 => ⟨S80000, .i32⟩
  | 48 => ⟨S80000, .i1⟩
  | 49 => ⟨S_, .i32⟩
  | 50 => ⟨S80000, .i32⟩
  | 51 => ⟨S80000, .i32⟩
  | 52 => ⟨S80000, .i32⟩
  | 53 => ⟨S80000x1, .i32⟩
  | 54 => ⟨S1, .i32⟩
  | 55 => ⟨S_, .i32⟩
  | 56 => ⟨S80000x1, .i32⟩
  | 57 => ⟨S80000x1, .i1⟩
  | 58 => ⟨S1x1, .i32⟩
  | 59 => ⟨S80000x1, .i32⟩
  | 60 => ⟨S80000x1, .i1⟩
  | 61 => ⟨S80000x1, .i1⟩
  | 62 => ⟨S_, .i1⟩
  | 63 => ⟨S80000, .i1⟩
  | 64 => ⟨S80000x64, .f32⟩
  | 65 => ⟨S80000x64, .i1⟩
  | 66 => ⟨S_, .f32⟩
  | 67 => ⟨S80000x64, .f32⟩
  | 68 => ⟨S80000x64, .f32⟩
  | 69 => ⟨S1x64x64, .f32⟩
  | 70 => ⟨S64x64, .f32⟩
  | 71 => ⟨S80000x64, .f32⟩
  | 72 => ⟨S80000x64, .f32⟩
  | 73 => ⟨S80000x1, .i32⟩
  | 74 => ⟨S80000, .i32⟩
  | 75 => ⟨S_, .i32⟩
  | 76 => ⟨S80000, .i32⟩
  | 77 => ⟨S80000, .i1⟩
  | 78 => ⟨S_, .i32⟩
  | 79 => ⟨S80000, .i32⟩
  | 80 => ⟨S80000, .i32⟩
  | 81 => ⟨S80000, .i32⟩
  | 82 => ⟨S80000x1, .i32⟩
  | 83 => ⟨S1, .i32⟩
  | 84 => ⟨S_, .i32⟩
  | 85 => ⟨S80000x1, .i32⟩
  | 86 => ⟨S80000x1, .i1⟩
  | 87 => ⟨S1x1, .i32⟩
  | 88 => ⟨S80000x1, .i32⟩
  | 89 => ⟨S80000x1, .i1⟩
  | 90 => ⟨S80000x1, .i1⟩
  | 91 => ⟨S_, .i1⟩
  | 92 => ⟨S80000, .i1⟩
  | 93 => ⟨S80000x64, .f32⟩
  | 94 => ⟨S80000x64, .i1⟩
  | 95 => ⟨S_, .f32⟩
  | 96 => ⟨S80000x64, .f32⟩
  | 97 => ⟨S80000x64, .f32⟩
  | 98 => ⟨S1x64x64, .f32⟩
  | 99 => ⟨S64x64, .f32⟩
  | 100 => ⟨S80000x64, .f32⟩
  | 101 => ⟨S80000x64, .f32⟩
  | 102 => ⟨S80000x1, .i32⟩
  | 103 => ⟨S80000, .i32⟩
  | 104 => ⟨S_, .i32⟩
  | 105 => ⟨S80000, .i32⟩
  | 106 => ⟨S80000, .i1⟩
  | 107 => ⟨S_, .i32⟩
  | 108 => ⟨S80000, .i32⟩
  | 109 => ⟨S80000, .i32⟩
  | 110 => ⟨S80000, .i32⟩
  | 111 => ⟨S80000x1, .i32⟩
  | 112 => ⟨S1, .i32⟩
  | 113 => ⟨S_, .i32⟩
  | 114 => ⟨S80000x1, .i32⟩
  | 115 => ⟨S80000x1, .i1⟩
  | 116 => ⟨S1x1, .i32⟩
  | 117 => ⟨S80000x1, .i32⟩
  | 118 => ⟨S80000x1, .i1⟩
  | 119 => ⟨S80000x1, .i1⟩
  | 120 => ⟨S_, .i1⟩
  | 121 => ⟨S80000, .i1⟩
  | 122 => ⟨S80000x64, .f32⟩
  | 123 => ⟨S80000x64, .i1⟩
  | 124 => ⟨S_, .f32⟩
  | 125 => ⟨S80000x64, .f32⟩
  | 126 => ⟨S80000x64, .f32⟩
  | 127 => ⟨S1x64x64, .f32⟩
  | _ => ⟨S10000x64, .f32⟩

abbrev hbmTy0_11 (i : Nat) : BufTy := match i % 128 with
  | 0 => ⟨S64x64, .f32⟩
  | 1 => ⟨S80000x64, .f32⟩
  | 2 => ⟨S80000x64, .f32⟩
  | 3 => ⟨S80000x1, .i32⟩
  | 4 => ⟨S80000, .i32⟩
  | 5 => ⟨S_, .i32⟩
  | 6 => ⟨S80000, .i32⟩
  | 7 => ⟨S80000, .i1⟩
  | 8 => ⟨S_, .i32⟩
  | 9 => ⟨S80000, .i32⟩
  | 10 => ⟨S80000, .i32⟩
  | 11 => ⟨S80000, .i32⟩
  | 12 => ⟨S80000x1, .i32⟩
  | 13 => ⟨S1, .i32⟩
  | 14 => ⟨S_, .i32⟩
  | 15 => ⟨S80000x1, .i32⟩
  | 16 => ⟨S80000x1, .i1⟩
  | 17 => ⟨S1x1, .i32⟩
  | 18 => ⟨S80000x1, .i32⟩
  | 19 => ⟨S80000x1, .i1⟩
  | 20 => ⟨S80000x1, .i1⟩
  | 21 => ⟨S_, .i1⟩
  | 22 => ⟨S80000, .i1⟩
  | 23 => ⟨S80000x64, .f32⟩
  | 24 => ⟨S80000x64, .i1⟩
  | 25 => ⟨S_, .f32⟩
  | 26 => ⟨S80000x64, .f32⟩
  | 27 => ⟨S80000x64, .f32⟩
  | 28 => ⟨S1x64x64, .f32⟩
  | 29 => ⟨S64x64, .f32⟩
  | 30 => ⟨S80000x64, .f32⟩
  | 31 => ⟨S80000x64, .f32⟩
  | 32 => ⟨S80000x1, .i32⟩
  | 33 => ⟨S80000, .i32⟩
  | 34 => ⟨S_, .i32⟩
  | 35 => ⟨S80000, .i32⟩
  | 36 => ⟨S80000, .i1⟩
  | 37 => ⟨S_, .i32⟩
  | 38 => ⟨S80000, .i32⟩
  | 39 => ⟨S80000, .i32⟩
  | 40 => ⟨S80000, .i32⟩
  | 41 => ⟨S80000x1, .i32⟩
  | 42 => ⟨S1, .i32⟩
  | 43 => ⟨S_, .i32⟩
  | 44 => ⟨S80000x1, .i32⟩
  | 45 => ⟨S80000x1, .i1⟩
  | 46 => ⟨S1x1, .i32⟩
  | 47 => ⟨S80000x1, .i32⟩
  | 48 => ⟨S80000x1, .i1⟩
  | 49 => ⟨S80000x1, .i1⟩
  | 50 => ⟨S_, .i1⟩
  | 51 => ⟨S80000, .i1⟩
  | 52 => ⟨S80000x64, .f32⟩
  | 53 => ⟨S80000x64, .i1⟩
  | 54 => ⟨S_, .f32⟩
  | 55 => ⟨S80000x64, .f32⟩
  | 56 => ⟨S80000x64, .f32⟩
  | 57 => ⟨S1x64x64, .f32⟩
  | 58 => ⟨S64x64, .f32⟩
  | 59 => ⟨S80000x64, .f32⟩
  | 60 => ⟨S80000x64, .f32⟩
  | 61 => ⟨S80000x1, .i32⟩
  | 62 => ⟨S80000, .i32⟩
  | 63 => ⟨S_, .i32⟩
  | 64 => ⟨S80000, .i32⟩
  | 65 => ⟨S80000, .i1⟩
  | 66 => ⟨S_, .i32⟩
  | 67 => ⟨S80000, .i32⟩
  | 68 => ⟨S80000, .i32⟩
  | 69 => ⟨S80000, .i32⟩
  | 70 => ⟨S80000x1, .i32⟩
  | 71 => ⟨S1, .i32⟩
  | 72 => ⟨S_, .i32⟩
  | 73 => ⟨S80000x1, .i32⟩
  | 74 => ⟨S80000x1, .i1⟩
  | 75 => ⟨S1x1, .i32⟩
  | 76 => ⟨S80000x1, .i32⟩
  | 77 => ⟨S80000x1, .i1⟩
  | 78 => ⟨S80000x1, .i1⟩
  | 79 => ⟨S_, .i1⟩
  | 80 => ⟨S80000, .i1⟩
  | 81 => ⟨S80000x64, .f32⟩
  | 82 => ⟨S80000x64, .i1⟩
  | 83 => ⟨S_, .f32⟩
  | 84 => ⟨S80000x64, .f32⟩
  | 85 => ⟨S80000x64, .f32⟩
  | 86 => ⟨S1x64x64, .f32⟩
  | 87 => ⟨S64x64, .f32⟩
  | 88 => ⟨S80000x64, .f32⟩
  | 89 => ⟨S80000x64, .f32⟩
  | 90 => ⟨S80000x1, .i32⟩
  | 91 => ⟨S80000, .i32⟩
  | 92 => ⟨S_, .i32⟩
  | 93 => ⟨S80000, .i32⟩
  | 94 => ⟨S80000, .i1⟩
  | 95 => ⟨S_, .i32⟩
  | 96 => ⟨S80000, .i32⟩
  | 97 => ⟨S80000, .i32⟩
  | 98 => ⟨S80000, .i32⟩
  | 99 => ⟨S80000x1, .i32⟩
  | 100 => ⟨S1, .i32⟩
  | 101 => ⟨S_, .i32⟩
  | 102 => ⟨S80000x1, .i32⟩
  | 103 => ⟨S80000x1, .i1⟩
  | 104 => ⟨S1x1, .i32⟩
  | 105 => ⟨S80000x1, .i32⟩
  | 106 => ⟨S80000x1, .i1⟩
  | 107 => ⟨S80000x1, .i1⟩
  | 108 => ⟨S_, .i1⟩
  | 109 => ⟨S80000, .i1⟩
  | 110 => ⟨S80000x64, .f32⟩
  | 111 => ⟨S80000x64, .i1⟩
  | 112 => ⟨S_, .f32⟩
  | 113 => ⟨S80000x64, .f32⟩
  | 114 => ⟨S80000x64, .f32⟩
  | 115 => ⟨S1x64x64, .f32⟩
  | 116 => ⟨S64x64, .f32⟩
  | 117 => ⟨S80000x64, .f32⟩
  | 118 => ⟨S80000x64, .f32⟩
  | 119 => ⟨S80000x1, .i32⟩
  | 120 => ⟨S80000, .i32⟩
  | 121 => ⟨S_, .i32⟩
  | 122 => ⟨S80000, .i32⟩
  | 123 => ⟨S80000, .i1⟩
  | 124 => ⟨S_, .i32⟩
  | 125 => ⟨S80000, .i32⟩
  | 126 => ⟨S80000, .i32⟩
  | 127 => ⟨S80000, .i32⟩
  | _ => ⟨S10000x64, .f32⟩

abbrev hbmTy0_12 (i : Nat) : BufTy := match i % 128 with
  | 0 => ⟨S80000x1, .i32⟩
  | 1 => ⟨S1, .i32⟩
  | 2 => ⟨S_, .i32⟩
  | 3 => ⟨S80000x1, .i32⟩
  | 4 => ⟨S80000x1, .i1⟩
  | 5 => ⟨S1x1, .i32⟩
  | 6 => ⟨S80000x1, .i32⟩
  | 7 => ⟨S80000x1, .i1⟩
  | 8 => ⟨S80000x1, .i1⟩
  | 9 => ⟨S_, .i1⟩
  | 10 => ⟨S80000, .i1⟩
  | 11 => ⟨S80000x64, .f32⟩
  | 12 => ⟨S80000x64, .i1⟩
  | 13 => ⟨S_, .f32⟩
  | 14 => ⟨S80000x64, .f32⟩
  | 15 => ⟨S80000x64, .f32⟩
  | 16 => ⟨S1x64x64, .f32⟩
  | 17 => ⟨S64x64, .f32⟩
  | 18 => ⟨S80000x64, .f32⟩
  | 19 => ⟨S80000x64, .f32⟩
  | 20 => ⟨S80000x1, .i32⟩
  | 21 => ⟨S80000, .i32⟩
  | 22 => ⟨S_, .i32⟩
  | 23 => ⟨S80000, .i32⟩
  | 24 => ⟨S80000, .i1⟩
  | 25 => ⟨S_, .i32⟩
  | 26 => ⟨S80000, .i32⟩
  | 27 => ⟨S80000, .i32⟩
  | 28 => ⟨S80000, .i32⟩
  | 29 => ⟨S80000x1, .i32⟩
  | 30 => ⟨S1, .i32⟩
  | 31 => ⟨S_, .i32⟩
  | 32 => ⟨S80000x1, .i32⟩
  | 33 => ⟨S80000x1, .i1⟩
  | 34 => ⟨S1x1, .i32⟩
  | 35 => ⟨S80000x1, .i32⟩
  | 36 => ⟨S80000x1, .i1⟩
  | 37 => ⟨S80000x1, .i1⟩
  | 38 => ⟨S_, .i1⟩
  | 39 => ⟨S80000, .i1⟩
  | 40 => ⟨S80000x64, .f32⟩
  | 41 => ⟨S80000x64, .i1⟩
  | 42 => ⟨S_, .f32⟩
  | 43 => ⟨S80000x64, .f32⟩
  | 44 => ⟨S80000x64, .f32⟩
  | 45 => ⟨S1x64x64, .f32⟩
  | 46 => ⟨S64x64, .f32⟩
  | 47 => ⟨S80000x64, .f32⟩
  | 48 => ⟨S80000x64, .f32⟩
  | 49 => ⟨S80000x1, .i32⟩
  | 50 => ⟨S80000, .i32⟩
  | 51 => ⟨S_, .i32⟩
  | 52 => ⟨S80000, .i32⟩
  | 53 => ⟨S80000, .i1⟩
  | 54 => ⟨S_, .i32⟩
  | 55 => ⟨S80000, .i32⟩
  | 56 => ⟨S80000, .i32⟩
  | 57 => ⟨S80000, .i32⟩
  | 58 => ⟨S80000x1, .i32⟩
  | 59 => ⟨S1, .i32⟩
  | 60 => ⟨S_, .i32⟩
  | 61 => ⟨S80000x1, .i32⟩
  | 62 => ⟨S80000x1, .i1⟩
  | 63 => ⟨S1x1, .i32⟩
  | 64 => ⟨S80000x1, .i32⟩
  | 65 => ⟨S80000x1, .i1⟩
  | 66 => ⟨S80000x1, .i1⟩
  | 67 => ⟨S_, .i1⟩
  | 68 => ⟨S80000, .i1⟩
  | 69 => ⟨S80000x64, .f32⟩
  | 70 => ⟨S80000x64, .i1⟩
  | 71 => ⟨S_, .f32⟩
  | 72 => ⟨S80000x64, .f32⟩
  | 73 => ⟨S80000x64, .f32⟩
  | 74 => ⟨S1x64x64, .f32⟩
  | 75 => ⟨S64x64, .f32⟩
  | 76 => ⟨S80000x64, .f32⟩
  | 77 => ⟨S80000x64, .f32⟩
  | 78 => ⟨S80000x1, .i32⟩
  | 79 => ⟨S80000, .i32⟩
  | 80 => ⟨S_, .i32⟩
  | 81 => ⟨S80000, .i32⟩
  | 82 => ⟨S80000, .i1⟩
  | 83 => ⟨S_, .i32⟩
  | 84 => ⟨S80000, .i32⟩
  | 85 => ⟨S80000, .i32⟩
  | 86 => ⟨S80000, .i32⟩
  | 87 => ⟨S80000x1, .i32⟩
  | 88 => ⟨S1, .i32⟩
  | 89 => ⟨S_, .i32⟩
  | 90 => ⟨S80000x1, .i32⟩
  | 91 => ⟨S80000x1, .i1⟩
  | 92 => ⟨S1x1, .i32⟩
  | 93 => ⟨S80000x1, .i32⟩
  | 94 => ⟨S80000x1, .i1⟩
  | 95 => ⟨S80000x1, .i1⟩
  | 96 => ⟨S_, .i1⟩
  | 97 => ⟨S80000, .i1⟩
  | 98 => ⟨S80000x64, .f32⟩
  | 99 => ⟨S80000x64, .i1⟩
  | 100 => ⟨S_, .f32⟩
  | 101 => ⟨S80000x64, .f32⟩
  | 102 => ⟨S80000x64, .f32⟩
  | 103 => ⟨S1x64x64, .f32⟩
  | 104 => ⟨S64x64, .f32⟩
  | 105 => ⟨S80000x64, .f32⟩
  | 106 => ⟨S80000x64, .f32⟩
  | 107 => ⟨S80000x1, .i32⟩
  | 108 => ⟨S80000, .i32⟩
  | 109 => ⟨S_, .i32⟩
  | 110 => ⟨S80000, .i32⟩
  | 111 => ⟨S80000, .i1⟩
  | 112 => ⟨S_, .i32⟩
  | 113 => ⟨S80000, .i32⟩
  | 114 => ⟨S80000, .i32⟩
  | 115 => ⟨S80000, .i32⟩
  | 116 => ⟨S80000x1, .i32⟩
  | 117 => ⟨S1, .i32⟩
  | 118 => ⟨S_, .i32⟩
  | 119 => ⟨S80000x1, .i32⟩
  | 120 => ⟨S80000x1, .i1⟩
  | 121 => ⟨S1x1, .i32⟩
  | 122 => ⟨S80000x1, .i32⟩
  | 123 => ⟨S80000x1, .i1⟩
  | 124 => ⟨S80000x1, .i1⟩
  | 125 => ⟨S_, .i1⟩
  | 126 => ⟨S80000, .i1⟩
  | 127 => ⟨S80000x64, .f32⟩
  | _ => ⟨S10000x64, .f32⟩

abbrev hbmTy0_13 (i : Nat) : BufTy := match i % 128 with
  | 0 => ⟨S80000x64, .i1⟩
  | 1 => ⟨S_, .f32⟩
  | 2 => ⟨S80000x64, .f32⟩
  | 3 => ⟨S80000x64, .f32⟩
  | 4 => ⟨S1x64x64, .f32⟩
  | 5 => ⟨S64x64, .f32⟩
  | 6 => ⟨S80000x64, .f32⟩
  | 7 => ⟨S80000x64, .f32⟩
  | 8 => ⟨S80000x8x8, .f32⟩
  | 9 => ⟨S80000x64, .f32⟩
  | 10 => ⟨S80000x64, .f32⟩
  | _ => ⟨S10000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | _ => ⟨S10000x64, .f32⟩

abbrev bufTy : (tb : Table) → Fin (tcTables nBuf tb) → BufTy
  | .hbm, ⟨i, _⟩ => hbmTy i
  | _, _ => ⟨S10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_call1_cst : Ref sig .tc := ⟨.hbm, 80, rfl⟩
abbrev main_call1_v15 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_call2_c : Ref sig .tc := ⟨.hbm, 89, rfl⟩
abbrev main_call2_v0 : Ref sig .tc := ⟨.hbm, 90, rfl⟩
abbrev main_call2_v1 : Ref sig .tc := ⟨.hbm, 91, rfl⟩
abbrev main_call2_c_0 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_c_1 : Ref sig .tc := ⟨.hbm, 97, rfl⟩
abbrev main_call2_c_2 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_c_3 : Ref sig .tc := ⟨.hbm, 105, rfl⟩
abbrev main_call2_v12 : Ref sig .tc := ⟨.hbm, 106, rfl⟩
abbrev main_call2_v13 : Ref sig .tc := ⟨.hbm, 107, rfl⟩
abbrev main_call2_v14 : Ref sig .tc := ⟨.hbm, 108, rfl⟩
abbrev main_call2_cst : Ref sig .tc := ⟨.hbm, 109, rfl⟩
abbrev main_call2_v15 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_call3_c : Ref sig .tc := ⟨.hbm, 118, rfl⟩
abbrev main_call3_v0 : Ref sig .tc := ⟨.hbm, 119, rfl⟩
abbrev main_call3_v1 : Ref sig .tc := ⟨.hbm, 120, rfl⟩
abbrev main_call3_c_0 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_call3_v5 : Ref sig .tc := ⟨.hbm, 125, rfl⟩
abbrev main_call3_c_1 : Ref sig .tc := ⟨.hbm, 126, rfl⟩
abbrev main_call3_c_2 : Ref sig .tc := ⟨.hbm, 127, rfl⟩
abbrev main_call3_v6 : Ref sig .tc := ⟨.hbm, 128, rfl⟩
abbrev main_call3_v7 : Ref sig .tc := ⟨.hbm, 129, rfl⟩
abbrev main_call3_v8 : Ref sig .tc := ⟨.hbm, 130, rfl⟩
abbrev main_call3_v9 : Ref sig .tc := ⟨.hbm, 131, rfl⟩
abbrev main_call3_v10 : Ref sig .tc := ⟨.hbm, 132, rfl⟩
abbrev main_call3_v11 : Ref sig .tc := ⟨.hbm, 133, rfl⟩
abbrev main_call3_c_3 : Ref sig .tc := ⟨.hbm, 134, rfl⟩
abbrev main_call3_v12 : Ref sig .tc := ⟨.hbm, 135, rfl⟩
abbrev main_call3_v13 : Ref sig .tc := ⟨.hbm, 136, rfl⟩
abbrev main_call3_v14 : Ref sig .tc := ⟨.hbm, 137, rfl⟩
abbrev main_call3_cst : Ref sig .tc := ⟨.hbm, 138, rfl⟩
abbrev main_call3_v15 : Ref sig .tc := ⟨.hbm, 139, rfl⟩
abbrev main_v49 : Ref sig .tc := ⟨.hbm, 140, rfl⟩
abbrev main_v50 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_v55 : Ref sig .tc := ⟨.hbm, 146, rfl⟩
abbrev main_call4_c : Ref sig .tc := ⟨.hbm, 147, rfl⟩
abbrev main_call4_v0 : Ref sig .tc := ⟨.hbm, 148, rfl⟩
abbrev main_call4_v1 : Ref sig .tc := ⟨.hbm, 149, rfl⟩
abbrev main_call4_c_0 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_call4_v5 : Ref sig .tc := ⟨.hbm, 154, rfl⟩
abbrev main_call4_c_1 : Ref sig .tc := ⟨.hbm, 155, rfl⟩
abbrev main_call4_c_2 : Ref sig .tc := ⟨.hbm, 156, rfl⟩
abbrev main_call4_v6 : Ref sig .tc := ⟨.hbm, 157, rfl⟩
abbrev main_call4_v7 : Ref sig .tc := ⟨.hbm, 158, rfl⟩
abbrev main_call4_v8 : Ref sig .tc := ⟨.hbm, 159, rfl⟩
abbrev main_call4_v9 : Ref sig .tc := ⟨.hbm, 160, rfl⟩
abbrev main_call4_v10 : Ref sig .tc := ⟨.hbm, 161, rfl⟩
abbrev main_call4_v11 : Ref sig .tc := ⟨.hbm, 162, rfl⟩
abbrev main_call4_c_3 : Ref sig .tc := ⟨.hbm, 163, rfl⟩
abbrev main_call4_v12 : Ref sig .tc := ⟨.hbm, 164, rfl⟩
abbrev main_call4_v13 : Ref sig .tc := ⟨.hbm, 165, rfl⟩
abbrev main_call4_v14 : Ref sig .tc := ⟨.hbm, 166, rfl⟩
abbrev main_call4_cst : Ref sig .tc := ⟨.hbm, 167, rfl⟩
abbrev main_call4_v15 : Ref sig .tc := ⟨.hbm, 168, rfl⟩
abbrev main_v56 : Ref sig .tc := ⟨.hbm, 169, rfl⟩
abbrev main_v57 : Ref sig .tc := ⟨.hbm, 170, rfl⟩
abbrev main_v58 : Ref sig .tc := ⟨.hbm, 171, rfl⟩
abbrev main_v59 : Ref sig .tc := ⟨.hbm, 172, rfl⟩
abbrev main_v60 : Ref sig .tc := ⟨.hbm, 173, rfl⟩
abbrev main_v61 : Ref sig .tc := ⟨.hbm, 174, rfl⟩
abbrev main_v62 : Ref sig .tc := ⟨.hbm, 175, rfl⟩
abbrev main_call5_c : Ref sig .tc := ⟨.hbm, 176, rfl⟩
abbrev main_call5_v0 : Ref sig .tc := ⟨.hbm, 177, rfl⟩
abbrev main_call5_v1 : Ref sig .tc := ⟨.hbm, 178, rfl⟩
abbrev main_call5_c_0 : Ref sig .tc := ⟨.hbm, 179, rfl⟩
abbrev main_call5_v2 : Ref sig .tc := ⟨.hbm, 180, rfl⟩
abbrev main_call5_v3 : Ref sig .tc := ⟨.hbm, 181, rfl⟩
abbrev main_call5_v4 : Ref sig .tc := ⟨.hbm, 182, rfl⟩
abbrev main_call5_v5 : Ref sig .tc := ⟨.hbm, 183, rfl⟩
abbrev main_call5_c_1 : Ref sig .tc := ⟨.hbm, 184, rfl⟩
abbrev main_call5_c_2 : Ref sig .tc := ⟨.hbm, 185, rfl⟩
abbrev main_call5_v6 : Ref sig .tc := ⟨.hbm, 186, rfl⟩
abbrev main_call5_v7 : Ref sig .tc := ⟨.hbm, 187, rfl⟩
abbrev main_call5_v8 : Ref sig .tc := ⟨.hbm, 188, rfl⟩
abbrev main_call5_v9 : Ref sig .tc := ⟨.hbm, 189, rfl⟩
abbrev main_call5_v10 : Ref sig .tc := ⟨.hbm, 190, rfl⟩
abbrev main_call5_v11 : Ref sig .tc := ⟨.hbm, 191, rfl⟩
abbrev main_call5_c_3 : Ref sig .tc := ⟨.hbm, 192, rfl⟩
abbrev main_call5_v12 : Ref sig .tc := ⟨.hbm, 193, rfl⟩
abbrev main_call5_v13 : Ref sig .tc := ⟨.hbm, 194, rfl⟩
abbrev main_call5_v14 : Ref sig .tc := ⟨.hbm, 195, rfl⟩
abbrev main_call5_cst : Ref sig .tc := ⟨.hbm, 196, rfl⟩
abbrev main_call5_v15 : Ref sig .tc := ⟨.hbm, 197, rfl⟩
abbrev main_v63 : Ref sig .tc := ⟨.hbm, 198, rfl⟩
abbrev main_v64 : Ref sig .tc := ⟨.hbm, 199, rfl⟩
abbrev main_v65 : Ref sig .tc := ⟨.hbm, 200, rfl⟩
abbrev main_v66 : Ref sig .tc := ⟨.hbm, 201, rfl⟩
abbrev main_v67 : Ref sig .tc := ⟨.hbm, 202, rfl⟩
abbrev main_v68 : Ref sig .tc := ⟨.hbm, 203, rfl⟩
abbrev main_v69 : Ref sig .tc := ⟨.hbm, 204, rfl⟩
abbrev main_call6_c : Ref sig .tc := ⟨.hbm, 205, rfl⟩
abbrev main_call6_v0 : Ref sig .tc := ⟨.hbm, 206, rfl⟩
abbrev main_call6_v1 : Ref sig .tc := ⟨.hbm, 207, rfl⟩
abbrev main_call6_c_0 : Ref sig .tc := ⟨.hbm, 208, rfl⟩
abbrev main_call6_v2 : Ref sig .tc := ⟨.hbm, 209, rfl⟩
abbrev main_call6_v3 : Ref sig .tc := ⟨.hbm, 210, rfl⟩
abbrev main_call6_v4 : Ref sig .tc := ⟨.hbm, 211, rfl⟩
abbrev main_call6_v5 : Ref sig .tc := ⟨.hbm, 212, rfl⟩
abbrev main_call6_c_1 : Ref sig .tc := ⟨.hbm, 213, rfl⟩
abbrev main_call6_c_2 : Ref sig .tc := ⟨.hbm, 214, rfl⟩
abbrev main_call6_v6 : Ref sig .tc := ⟨.hbm, 215, rfl⟩
abbrev main_call6_v7 : Ref sig .tc := ⟨.hbm, 216, rfl⟩
abbrev main_call6_v8 : Ref sig .tc := ⟨.hbm, 217, rfl⟩
abbrev main_call6_v9 : Ref sig .tc := ⟨.hbm, 218, rfl⟩
abbrev main_call6_v10 : Ref sig .tc := ⟨.hbm, 219, rfl⟩
abbrev main_call6_v11 : Ref sig .tc := ⟨.hbm, 220, rfl⟩
abbrev main_call6_c_3 : Ref sig .tc := ⟨.hbm, 221, rfl⟩
abbrev main_call6_v12 : Ref sig .tc := ⟨.hbm, 222, rfl⟩
abbrev main_call6_v13 : Ref sig .tc := ⟨.hbm, 223, rfl⟩
abbrev main_call6_v14 : Ref sig .tc := ⟨.hbm, 224, rfl⟩
abbrev main_call6_cst : Ref sig .tc := ⟨.hbm, 225, rfl⟩
abbrev main_call6_v15 : Ref sig .tc := ⟨.hbm, 226, rfl⟩
abbrev main_v70 : Ref sig .tc := ⟨.hbm, 227, rfl⟩
abbrev main_v71 : Ref sig .tc := ⟨.hbm, 228, rfl⟩
abbrev main_v72 : Ref sig .tc := ⟨.hbm, 229, rfl⟩
abbrev main_v73 : Ref sig .tc := ⟨.hbm, 230, rfl⟩
abbrev main_v74 : Ref sig .tc := ⟨.hbm, 231, rfl⟩
abbrev main_v75 : Ref sig .tc := ⟨.hbm, 232, rfl⟩
abbrev main_v76 : Ref sig .tc := ⟨.hbm, 233, rfl⟩
abbrev main_call7_c : Ref sig .tc := ⟨.hbm, 234, rfl⟩
abbrev main_call7_v0 : Ref sig .tc := ⟨.hbm, 235, rfl⟩
abbrev main_call7_v1 : Ref sig .tc := ⟨.hbm, 236, rfl⟩
abbrev main_call7_c_0 : Ref sig .tc := ⟨.hbm, 237, rfl⟩
abbrev main_call7_v2 : Ref sig .tc := ⟨.hbm, 238, rfl⟩
abbrev main_call7_v3 : Ref sig .tc := ⟨.hbm, 239, rfl⟩
abbrev main_call7_v4 : Ref sig .tc := ⟨.hbm, 240, rfl⟩
abbrev main_call7_v5 : Ref sig .tc := ⟨.hbm, 241, rfl⟩
abbrev main_call7_c_1 : Ref sig .tc := ⟨.hbm, 242, rfl⟩
abbrev main_call7_c_2 : Ref sig .tc := ⟨.hbm, 243, rfl⟩
abbrev main_call7_v6 : Ref sig .tc := ⟨.hbm, 244, rfl⟩
abbrev main_call7_v7 : Ref sig .tc := ⟨.hbm, 245, rfl⟩
abbrev main_call7_v8 : Ref sig .tc := ⟨.hbm, 246, rfl⟩
abbrev main_call7_v9 : Ref sig .tc := ⟨.hbm, 247, rfl⟩
abbrev main_call7_v10 : Ref sig .tc := ⟨.hbm, 248, rfl⟩
abbrev main_call7_v11 : Ref sig .tc := ⟨.hbm, 249, rfl⟩
abbrev main_call7_c_3 : Ref sig .tc := ⟨.hbm, 250, rfl⟩
abbrev main_call7_v12 : Ref sig .tc := ⟨.hbm, 251, rfl⟩
abbrev main_call7_v13 : Ref sig .tc := ⟨.hbm, 252, rfl⟩
abbrev main_call7_v14 : Ref sig .tc := ⟨.hbm, 253, rfl⟩
abbrev main_call7_cst : Ref sig .tc := ⟨.hbm, 254, rfl⟩
abbrev main_call7_v15 : Ref sig .tc := ⟨.hbm, 255, rfl⟩
abbrev main_v77 : Ref sig .tc := ⟨.hbm, 256, rfl⟩
abbrev main_v78 : Ref sig .tc := ⟨.hbm, 257, rfl⟩
abbrev main_v79 : Ref sig .tc := ⟨.hbm, 258, rfl⟩
abbrev main_v80 : Ref sig .tc := ⟨.hbm, 259, rfl⟩
abbrev main_v81 : Ref sig .tc := ⟨.hbm, 260, rfl⟩
abbrev main_v82 : Ref sig .tc := ⟨.hbm, 261, rfl⟩
abbrev main_v83 : Ref sig .tc := ⟨.hbm, 262, rfl⟩
abbrev main_call8_c : Ref sig .tc := ⟨.hbm, 263, rfl⟩
abbrev main_call8_v0 : Ref sig .tc := ⟨.hbm, 264, rfl⟩
abbrev main_call8_v1 : Ref sig .tc := ⟨.hbm, 265, rfl⟩
abbrev main_call8_c_0 : Ref sig .tc := ⟨.hbm, 266, rfl⟩
abbrev main_call8_v2 : Ref sig .tc := ⟨.hbm, 267, rfl⟩
abbrev main_call8_v3 : Ref sig .tc := ⟨.hbm, 268, rfl⟩
abbrev main_call8_v4 : Ref sig .tc := ⟨.hbm, 269, rfl⟩
abbrev main_call8_v5 : Ref sig .tc := ⟨.hbm, 270, rfl⟩
abbrev main_call8_c_1 : Ref sig .tc := ⟨.hbm, 271, rfl⟩
abbrev main_call8_c_2 : Ref sig .tc := ⟨.hbm, 272, rfl⟩
abbrev main_call8_v6 : Ref sig .tc := ⟨.hbm, 273, rfl⟩
abbrev main_call8_v7 : Ref sig .tc := ⟨.hbm, 274, rfl⟩
abbrev main_call8_v8 : Ref sig .tc := ⟨.hbm, 275, rfl⟩
abbrev main_call8_v9 : Ref sig .tc := ⟨.hbm, 276, rfl⟩
abbrev main_call8_v10 : Ref sig .tc := ⟨.hbm, 277, rfl⟩
abbrev main_call8_v11 : Ref sig .tc := ⟨.hbm, 278, rfl⟩
abbrev main_call8_c_3 : Ref sig .tc := ⟨.hbm, 279, rfl⟩
abbrev main_call8_v12 : Ref sig .tc := ⟨.hbm, 280, rfl⟩
abbrev main_call8_v13 : Ref sig .tc := ⟨.hbm, 281, rfl⟩
abbrev main_call8_v14 : Ref sig .tc := ⟨.hbm, 282, rfl⟩
abbrev main_call8_cst : Ref sig .tc := ⟨.hbm, 283, rfl⟩
abbrev main_call8_v15 : Ref sig .tc := ⟨.hbm, 284, rfl⟩
abbrev main_v84 : Ref sig .tc := ⟨.hbm, 285, rfl⟩
abbrev main_v85 : Ref sig .tc := ⟨.hbm, 286, rfl⟩
abbrev main_v86 : Ref sig .tc := ⟨.hbm, 287, rfl⟩
abbrev main_v87 : Ref sig .tc := ⟨.hbm, 288, rfl⟩
abbrev main_v88 : Ref sig .tc := ⟨.hbm, 289, rfl⟩
abbrev main_v89 : Ref sig .tc := ⟨.hbm, 290, rfl⟩
abbrev main_v90 : Ref sig .tc := ⟨.hbm, 291, rfl⟩
abbrev main_call9_c : Ref sig .tc := ⟨.hbm, 292, rfl⟩
abbrev main_call9_v0 : Ref sig .tc := ⟨.hbm, 293, rfl⟩
abbrev main_call9_v1 : Ref sig .tc := ⟨.hbm, 294, rfl⟩
abbrev main_call9_c_0 : Ref sig .tc := ⟨.hbm, 295, rfl⟩
abbrev main_call9_v2 : Ref sig .tc := ⟨.hbm, 296, rfl⟩
abbrev main_call9_v3 : Ref sig .tc := ⟨.hbm, 297, rfl⟩
abbrev main_call9_v4 : Ref sig .tc := ⟨.hbm, 298, rfl⟩
abbrev main_call9_v5 : Ref sig .tc := ⟨.hbm, 299, rfl⟩
abbrev main_call9_c_1 : Ref sig .tc := ⟨.hbm, 300, rfl⟩
abbrev main_call9_c_2 : Ref sig .tc := ⟨.hbm, 301, rfl⟩
abbrev main_call9_v6 : Ref sig .tc := ⟨.hbm, 302, rfl⟩
abbrev main_call9_v7 : Ref sig .tc := ⟨.hbm, 303, rfl⟩
abbrev main_call9_v8 : Ref sig .tc := ⟨.hbm, 304, rfl⟩
abbrev main_call9_v9 : Ref sig .tc := ⟨.hbm, 305, rfl⟩
abbrev main_call9_v10 : Ref sig .tc := ⟨.hbm, 306, rfl⟩
abbrev main_call9_v11 : Ref sig .tc := ⟨.hbm, 307, rfl⟩
abbrev main_call9_c_3 : Ref sig .tc := ⟨.hbm, 308, rfl⟩
abbrev main_call9_v12 : Ref sig .tc := ⟨.hbm, 309, rfl⟩
abbrev main_call9_v13 : Ref sig .tc := ⟨.hbm, 310, rfl⟩
abbrev main_call9_v14 : Ref sig .tc := ⟨.hbm, 311, rfl⟩
abbrev main_call9_cst : Ref sig .tc := ⟨.hbm, 312, rfl⟩
abbrev main_call9_v15 : Ref sig .tc := ⟨.hbm, 313, rfl⟩
abbrev main_v91 : Ref sig .tc := ⟨.hbm, 314, rfl⟩
abbrev main_v92 : Ref sig .tc := ⟨.hbm, 315, rfl⟩
abbrev main_v93 : Ref sig .tc := ⟨.hbm, 316, rfl⟩
abbrev main_v94 : Ref sig .tc := ⟨.hbm, 317, rfl⟩
abbrev main_v95 : Ref sig .tc := ⟨.hbm, 318, rfl⟩
abbrev main_v96 : Ref sig .tc := ⟨.hbm, 319, rfl⟩
abbrev main_v97 : Ref sig .tc := ⟨.hbm, 320, rfl⟩
abbrev main_call10_c : Ref sig .tc := ⟨.hbm, 321, rfl⟩
abbrev main_call10_v0 : Ref sig .tc := ⟨.hbm, 322, rfl⟩
abbrev main_call10_v1 : Ref sig .tc := ⟨.hbm, 323, rfl⟩
abbrev main_call10_c_0 : Ref sig .tc := ⟨.hbm, 324, rfl⟩
abbrev main_call10_v2 : Ref sig .tc := ⟨.hbm, 325, rfl⟩
abbrev main_call10_v3 : Ref sig .tc := ⟨.hbm, 326, rfl⟩
abbrev main_call10_v4 : Ref sig .tc := ⟨.hbm, 327, rfl⟩
abbrev main_call10_v5 : Ref sig .tc := ⟨.hbm, 328, rfl⟩
abbrev main_call10_c_1 : Ref sig .tc := ⟨.hbm, 329, rfl⟩
abbrev main_call10_c_2 : Ref sig .tc := ⟨.hbm, 330, rfl⟩
abbrev main_call10_v6 : Ref sig .tc := ⟨.hbm, 331, rfl⟩
abbrev main_call10_v7 : Ref sig .tc := ⟨.hbm, 332, rfl⟩
abbrev main_call10_v8 : Ref sig .tc := ⟨.hbm, 333, rfl⟩
abbrev main_call10_v9 : Ref sig .tc := ⟨.hbm, 334, rfl⟩
abbrev main_call10_v10 : Ref sig .tc := ⟨.hbm, 335, rfl⟩
abbrev main_call10_v11 : Ref sig .tc := ⟨.hbm, 336, rfl⟩
abbrev main_call10_c_3 : Ref sig .tc := ⟨.hbm, 337, rfl⟩
abbrev main_call10_v12 : Ref sig .tc := ⟨.hbm, 338, rfl⟩
abbrev main_call10_v13 : Ref sig .tc := ⟨.hbm, 339, rfl⟩
abbrev main_call10_v14 : Ref sig .tc := ⟨.hbm, 340, rfl⟩
abbrev main_call10_cst : Ref sig .tc := ⟨.hbm, 341, rfl⟩
abbrev main_call10_v15 : Ref sig .tc := ⟨.hbm, 342, rfl⟩
abbrev main_v98 : Ref sig .tc := ⟨.hbm, 343, rfl⟩
abbrev main_v99 : Ref sig .tc := ⟨.hbm, 344, rfl⟩
abbrev main_v100 : Ref sig .tc := ⟨.hbm, 345, rfl⟩
abbrev main_v101 : Ref sig .tc := ⟨.hbm, 346, rfl⟩
abbrev main_v102 : Ref sig .tc := ⟨.hbm, 347, rfl⟩
abbrev main_v103 : Ref sig .tc := ⟨.hbm, 348, rfl⟩
abbrev main_v104 : Ref sig .tc := ⟨.hbm, 349, rfl⟩
abbrev main_call11_c : Ref sig .tc := ⟨.hbm, 350, rfl⟩
abbrev main_call11_v0 : Ref sig .tc := ⟨.hbm, 351, rfl⟩
abbrev main_call11_v1 : Ref sig .tc := ⟨.hbm, 352, rfl⟩
abbrev main_call11_c_0 : Ref sig .tc := ⟨.hbm, 353, rfl⟩
abbrev main_call11_v2 : Ref sig .tc := ⟨.hbm, 354, rfl⟩
abbrev main_call11_v3 : Ref sig .tc := ⟨.hbm, 355, rfl⟩
abbrev main_call11_v4 : Ref sig .tc := ⟨.hbm, 356, rfl⟩
abbrev main_call11_v5 : Ref sig .tc := ⟨.hbm, 357, rfl⟩
abbrev main_call11_c_1 : Ref sig .tc := ⟨.hbm, 358, rfl⟩
abbrev main_call11_c_2 : Ref sig .tc := ⟨.hbm, 359, rfl⟩
abbrev main_call11_v6 : Ref sig .tc := ⟨.hbm, 360, rfl⟩
abbrev main_call11_v7 : Ref sig .tc := ⟨.hbm, 361, rfl⟩
abbrev main_call11_v8 : Ref sig .tc := ⟨.hbm, 362, rfl⟩
abbrev main_call11_v9 : Ref sig .tc := ⟨.hbm, 363, rfl⟩
abbrev main_call11_v10 : Ref sig .tc := ⟨.hbm, 364, rfl⟩
abbrev main_call11_v11 : Ref sig .tc := ⟨.hbm, 365, rfl⟩
abbrev main_call11_c_3 : Ref sig .tc := ⟨.hbm, 366, rfl⟩
abbrev main_call11_v12 : Ref sig .tc := ⟨.hbm, 367, rfl⟩
abbrev main_call11_v13 : Ref sig .tc := ⟨.hbm, 368, rfl⟩
abbrev main_call11_v14 : Ref sig .tc := ⟨.hbm, 369, rfl⟩
abbrev main_call11_cst : Ref sig .tc := ⟨.hbm, 370, rfl⟩
abbrev main_call11_v15 : Ref sig .tc := ⟨.hbm, 371, rfl⟩
abbrev main_v105 : Ref sig .tc := ⟨.hbm, 372, rfl⟩
abbrev main_v106 : Ref sig .tc := ⟨.hbm, 373, rfl⟩
abbrev main_v107 : Ref sig .tc := ⟨.hbm, 374, rfl⟩
abbrev main_v108 : Ref sig .tc := ⟨.hbm, 375, rfl⟩
abbrev main_v109 : Ref sig .tc := ⟨.hbm, 376, rfl⟩
abbrev main_v110 : Ref sig .tc := ⟨.hbm, 377, rfl⟩
abbrev main_v111 : Ref sig .tc := ⟨.hbm, 378, rfl⟩
abbrev main_call12_c : Ref sig .tc := ⟨.hbm, 379, rfl⟩
abbrev main_call12_v0 : Ref sig .tc := ⟨.hbm, 380, rfl⟩
abbrev main_call12_v1 : Ref sig .tc := ⟨.hbm, 381, rfl⟩
abbrev main_call12_c_0 : Ref sig .tc := ⟨.hbm, 382, rfl⟩
abbrev main_call12_v2 : Ref sig .tc := ⟨.hbm, 383, rfl⟩
abbrev main_call12_v3 : Ref sig .tc := ⟨.hbm, 384, rfl⟩
abbrev main_call12_v4 : Ref sig .tc := ⟨.hbm, 385, rfl⟩
abbrev main_call12_v5 : Ref sig .tc := ⟨.hbm, 386, rfl⟩
abbrev main_call12_c_1 : Ref sig .tc := ⟨.hbm, 387, rfl⟩
abbrev main_call12_c_2 : Ref sig .tc := ⟨.hbm, 388, rfl⟩
abbrev main_call12_v6 : Ref sig .tc := ⟨.hbm, 389, rfl⟩
abbrev main_call12_v7 : Ref sig .tc := ⟨.hbm, 390, rfl⟩
abbrev main_call12_v8 : Ref sig .tc := ⟨.hbm, 391, rfl⟩
abbrev main_call12_v9 : Ref sig .tc := ⟨.hbm, 392, rfl⟩
abbrev main_call12_v10 : Ref sig .tc := ⟨.hbm, 393, rfl⟩
abbrev main_call12_v11 : Ref sig .tc := ⟨.hbm, 394, rfl⟩
abbrev main_call12_c_3 : Ref sig .tc := ⟨.hbm, 395, rfl⟩
abbrev main_call12_v12 : Ref sig .tc := ⟨.hbm, 396, rfl⟩
abbrev main_call12_v13 : Ref sig .tc := ⟨.hbm, 397, rfl⟩
abbrev main_call12_v14 : Ref sig .tc := ⟨.hbm, 398, rfl⟩
abbrev main_call12_cst : Ref sig .tc := ⟨.hbm, 399, rfl⟩
abbrev main_call12_v15 : Ref sig .tc := ⟨.hbm, 400, rfl⟩
abbrev main_v112 : Ref sig .tc := ⟨.hbm, 401, rfl⟩
abbrev main_v113 : Ref sig .tc := ⟨.hbm, 402, rfl⟩
abbrev main_v114 : Ref sig .tc := ⟨.hbm, 403, rfl⟩
abbrev main_v115 : Ref sig .tc := ⟨.hbm, 404, rfl⟩
abbrev main_v116 : Ref sig .tc := ⟨.hbm, 405, rfl⟩
abbrev main_v117 : Ref sig .tc := ⟨.hbm, 406, rfl⟩
abbrev main_v118 : Ref sig .tc := ⟨.hbm, 407, rfl⟩
abbrev main_call13_c : Ref sig .tc := ⟨.hbm, 408, rfl⟩
abbrev main_call13_v0 : Ref sig .tc := ⟨.hbm, 409, rfl⟩
abbrev main_call13_v1 : Ref sig .tc := ⟨.hbm, 410, rfl⟩
abbrev main_call13_c_0 : Ref sig .tc := ⟨.hbm, 411, rfl⟩
abbrev main_call13_v2 : Ref sig .tc := ⟨.hbm, 412, rfl⟩
abbrev main_call13_v3 : Ref sig .tc := ⟨.hbm, 413, rfl⟩
abbrev main_call13_v4 : Ref sig .tc := ⟨.hbm, 414, rfl⟩
abbrev main_call13_v5 : Ref sig .tc := ⟨.hbm, 415, rfl⟩
abbrev main_call13_c_1 : Ref sig .tc := ⟨.hbm, 416, rfl⟩
abbrev main_call13_c_2 : Ref sig .tc := ⟨.hbm, 417, rfl⟩
abbrev main_call13_v6 : Ref sig .tc := ⟨.hbm, 418, rfl⟩
abbrev main_call13_v7 : Ref sig .tc := ⟨.hbm, 419, rfl⟩
abbrev main_call13_v8 : Ref sig .tc := ⟨.hbm, 420, rfl⟩
abbrev main_call13_v9 : Ref sig .tc := ⟨.hbm, 421, rfl⟩
abbrev main_call13_v10 : Ref sig .tc := ⟨.hbm, 422, rfl⟩
abbrev main_call13_v11 : Ref sig .tc := ⟨.hbm, 423, rfl⟩
abbrev main_call13_c_3 : Ref sig .tc := ⟨.hbm, 424, rfl⟩
abbrev main_call13_v12 : Ref sig .tc := ⟨.hbm, 425, rfl⟩
abbrev main_call13_v13 : Ref sig .tc := ⟨.hbm, 426, rfl⟩
abbrev main_call13_v14 : Ref sig .tc := ⟨.hbm, 427, rfl⟩
abbrev main_call13_cst : Ref sig .tc := ⟨.hbm, 428, rfl⟩
abbrev main_call13_v15 : Ref sig .tc := ⟨.hbm, 429, rfl⟩
abbrev main_v119 : Ref sig .tc := ⟨.hbm, 430, rfl⟩
abbrev main_v120 : Ref sig .tc := ⟨.hbm, 431, rfl⟩
abbrev main_v121 : Ref sig .tc := ⟨.hbm, 432, rfl⟩
abbrev main_v122 : Ref sig .tc := ⟨.hbm, 433, rfl⟩
abbrev main_v123 : Ref sig .tc := ⟨.hbm, 434, rfl⟩
abbrev main_v124 : Ref sig .tc := ⟨.hbm, 435, rfl⟩
abbrev main_v125 : Ref sig .tc := ⟨.hbm, 436, rfl⟩
abbrev main_call14_c : Ref sig .tc := ⟨.hbm, 437, rfl⟩
abbrev main_call14_v0 : Ref sig .tc := ⟨.hbm, 438, rfl⟩
abbrev main_call14_v1 : Ref sig .tc := ⟨.hbm, 439, rfl⟩
abbrev main_call14_c_0 : Ref sig .tc := ⟨.hbm, 440, rfl⟩
abbrev main_call14_v2 : Ref sig .tc := ⟨.hbm, 441, rfl⟩
abbrev main_call14_v3 : Ref sig .tc := ⟨.hbm, 442, rfl⟩
abbrev main_call14_v4 : Ref sig .tc := ⟨.hbm, 443, rfl⟩
abbrev main_call14_v5 : Ref sig .tc := ⟨.hbm, 444, rfl⟩
abbrev main_call14_c_1 : Ref sig .tc := ⟨.hbm, 445, rfl⟩
abbrev main_call14_c_2 : Ref sig .tc := ⟨.hbm, 446, rfl⟩
abbrev main_call14_v6 : Ref sig .tc := ⟨.hbm, 447, rfl⟩
abbrev main_call14_v7 : Ref sig .tc := ⟨.hbm, 448, rfl⟩
abbrev main_call14_v8 : Ref sig .tc := ⟨.hbm, 449, rfl⟩
abbrev main_call14_v9 : Ref sig .tc := ⟨.hbm, 450, rfl⟩
abbrev main_call14_v10 : Ref sig .tc := ⟨.hbm, 451, rfl⟩
abbrev main_call14_v11 : Ref sig .tc := ⟨.hbm, 452, rfl⟩
abbrev main_call14_c_3 : Ref sig .tc := ⟨.hbm, 453, rfl⟩
abbrev main_call14_v12 : Ref sig .tc := ⟨.hbm, 454, rfl⟩
abbrev main_call14_v13 : Ref sig .tc := ⟨.hbm, 455, rfl⟩
abbrev main_call14_v14 : Ref sig .tc := ⟨.hbm, 456, rfl⟩
abbrev main_call14_cst : Ref sig .tc := ⟨.hbm, 457, rfl⟩
abbrev main_call14_v15 : Ref sig .tc := ⟨.hbm, 458, rfl⟩
abbrev main_v126 : Ref sig .tc := ⟨.hbm, 459, rfl⟩
abbrev main_v127 : Ref sig .tc := ⟨.hbm, 460, rfl⟩
abbrev main_v128 : Ref sig .tc := ⟨.hbm, 461, rfl⟩
abbrev main_v129 : Ref sig .tc := ⟨.hbm, 462, rfl⟩
abbrev main_v130 : Ref sig .tc := ⟨.hbm, 463, rfl⟩
abbrev main_v131 : Ref sig .tc := ⟨.hbm, 464, rfl⟩
abbrev main_v132 : Ref sig .tc := ⟨.hbm, 465, rfl⟩
abbrev main_call15_c : Ref sig .tc := ⟨.hbm, 466, rfl⟩
abbrev main_call15_v0 : Ref sig .tc := ⟨.hbm, 467, rfl⟩
abbrev main_call15_v1 : Ref sig .tc := ⟨.hbm, 468, rfl⟩
abbrev main_call15_c_0 : Ref sig .tc := ⟨.hbm, 469, rfl⟩
abbrev main_call15_v2 : Ref sig .tc := ⟨.hbm, 470, rfl⟩
abbrev main_call15_v3 : Ref sig .tc := ⟨.hbm, 471, rfl⟩
abbrev main_call15_v4 : Ref sig .tc := ⟨.hbm, 472, rfl⟩
abbrev main_call15_v5 : Ref sig .tc := ⟨.hbm, 473, rfl⟩
abbrev main_call15_c_1 : Ref sig .tc := ⟨.hbm, 474, rfl⟩
abbrev main_call15_c_2 : Ref sig .tc := ⟨.hbm, 475, rfl⟩
abbrev main_call15_v6 : Ref sig .tc := ⟨.hbm, 476, rfl⟩
abbrev main_call15_v7 : Ref sig .tc := ⟨.hbm, 477, rfl⟩
abbrev main_call15_v8 : Ref sig .tc := ⟨.hbm, 478, rfl⟩
abbrev main_call15_v9 : Ref sig .tc := ⟨.hbm, 479, rfl⟩
abbrev main_call15_v10 : Ref sig .tc := ⟨.hbm, 480, rfl⟩
abbrev main_call15_v11 : Ref sig .tc := ⟨.hbm, 481, rfl⟩
abbrev main_call15_c_3 : Ref sig .tc := ⟨.hbm, 482, rfl⟩
abbrev main_call15_v12 : Ref sig .tc := ⟨.hbm, 483, rfl⟩
abbrev main_call15_v13 : Ref sig .tc := ⟨.hbm, 484, rfl⟩
abbrev main_call15_v14 : Ref sig .tc := ⟨.hbm, 485, rfl⟩
abbrev main_call15_cst : Ref sig .tc := ⟨.hbm, 486, rfl⟩
abbrev main_call15_v15 : Ref sig .tc := ⟨.hbm, 487, rfl⟩
abbrev main_v133 : Ref sig .tc := ⟨.hbm, 488, rfl⟩
abbrev main_v134 : Ref sig .tc := ⟨.hbm, 489, rfl⟩
abbrev main_v135 : Ref sig .tc := ⟨.hbm, 490, rfl⟩
abbrev main_v136 : Ref sig .tc := ⟨.hbm, 491, rfl⟩
abbrev main_v137 : Ref sig .tc := ⟨.hbm, 492, rfl⟩
abbrev main_v138 : Ref sig .tc := ⟨.hbm, 493, rfl⟩
abbrev main_v139 : Ref sig .tc := ⟨.hbm, 494, rfl⟩
abbrev main_call16_c : Ref sig .tc := ⟨.hbm, 495, rfl⟩
abbrev main_call16_v0 : Ref sig .tc := ⟨.hbm, 496, rfl⟩
abbrev main_call16_v1 : Ref sig .tc := ⟨.hbm, 497, rfl⟩
abbrev main_call16_c_0 : Ref sig .tc := ⟨.hbm, 498, rfl⟩
abbrev main_call16_v2 : Ref sig .tc := ⟨.hbm, 499, rfl⟩
abbrev main_call16_v3 : Ref sig .tc := ⟨.hbm, 500, rfl⟩
abbrev main_call16_v4 : Ref sig .tc := ⟨.hbm, 501, rfl⟩
abbrev main_call16_v5 : Ref sig .tc := ⟨.hbm, 502, rfl⟩
abbrev main_call16_c_1 : Ref sig .tc := ⟨.hbm, 503, rfl⟩
abbrev main_call16_c_2 : Ref sig .tc := ⟨.hbm, 504, rfl⟩
abbrev main_call16_v6 : Ref sig .tc := ⟨.hbm, 505, rfl⟩
abbrev main_call16_v7 : Ref sig .tc := ⟨.hbm, 506, rfl⟩
abbrev main_call16_v8 : Ref sig .tc := ⟨.hbm, 507, rfl⟩
abbrev main_call16_v9 : Ref sig .tc := ⟨.hbm, 508, rfl⟩
abbrev main_call16_v10 : Ref sig .tc := ⟨.hbm, 509, rfl⟩
abbrev main_call16_v11 : Ref sig .tc := ⟨.hbm, 510, rfl⟩
abbrev main_call16_c_3 : Ref sig .tc := ⟨.hbm, 511, rfl⟩
abbrev main_call16_v12 : Ref sig .tc := ⟨.hbm, 512, rfl⟩
abbrev main_call16_v13 : Ref sig .tc := ⟨.hbm, 513, rfl⟩
abbrev main_call16_v14 : Ref sig .tc := ⟨.hbm, 514, rfl⟩
abbrev main_call16_cst : Ref sig .tc := ⟨.hbm, 515, rfl⟩
abbrev main_call16_v15 : Ref sig .tc := ⟨.hbm, 516, rfl⟩
abbrev main_v140 : Ref sig .tc := ⟨.hbm, 517, rfl⟩
abbrev main_v141 : Ref sig .tc := ⟨.hbm, 518, rfl⟩
abbrev main_v142 : Ref sig .tc := ⟨.hbm, 519, rfl⟩
abbrev main_v143 : Ref sig .tc := ⟨.hbm, 520, rfl⟩
abbrev main_v144 : Ref sig .tc := ⟨.hbm, 521, rfl⟩
abbrev main_v145 : Ref sig .tc := ⟨.hbm, 522, rfl⟩
abbrev main_v146 : Ref sig .tc := ⟨.hbm, 523, rfl⟩
abbrev main_call17_c : Ref sig .tc := ⟨.hbm, 524, rfl⟩
abbrev main_call17_v0 : Ref sig .tc := ⟨.hbm, 525, rfl⟩
abbrev main_call17_v1 : Ref sig .tc := ⟨.hbm, 526, rfl⟩
abbrev main_call17_c_0 : Ref sig .tc := ⟨.hbm, 527, rfl⟩
abbrev main_call17_v2 : Ref sig .tc := ⟨.hbm, 528, rfl⟩
abbrev main_call17_v3 : Ref sig .tc := ⟨.hbm, 529, rfl⟩
abbrev main_call17_v4 : Ref sig .tc := ⟨.hbm, 530, rfl⟩
abbrev main_call17_v5 : Ref sig .tc := ⟨.hbm, 531, rfl⟩
abbrev main_call17_c_1 : Ref sig .tc := ⟨.hbm, 532, rfl⟩
abbrev main_call17_c_2 : Ref sig .tc := ⟨.hbm, 533, rfl⟩
abbrev main_call17_v6 : Ref sig .tc := ⟨.hbm, 534, rfl⟩
abbrev main_call17_v7 : Ref sig .tc := ⟨.hbm, 535, rfl⟩
abbrev main_call17_v8 : Ref sig .tc := ⟨.hbm, 536, rfl⟩
abbrev main_call17_v9 : Ref sig .tc := ⟨.hbm, 537, rfl⟩
abbrev main_call17_v10 : Ref sig .tc := ⟨.hbm, 538, rfl⟩
abbrev main_call17_v11 : Ref sig .tc := ⟨.hbm, 539, rfl⟩
abbrev main_call17_c_3 : Ref sig .tc := ⟨.hbm, 540, rfl⟩
abbrev main_call17_v12 : Ref sig .tc := ⟨.hbm, 541, rfl⟩
abbrev main_call17_v13 : Ref sig .tc := ⟨.hbm, 542, rfl⟩
abbrev main_call17_v14 : Ref sig .tc := ⟨.hbm, 543, rfl⟩
abbrev main_call17_cst : Ref sig .tc := ⟨.hbm, 544, rfl⟩
abbrev main_call17_v15 : Ref sig .tc := ⟨.hbm, 545, rfl⟩
abbrev main_v147 : Ref sig .tc := ⟨.hbm, 546, rfl⟩
abbrev main_v148 : Ref sig .tc := ⟨.hbm, 547, rfl⟩
abbrev main_v149 : Ref sig .tc := ⟨.hbm, 548, rfl⟩
abbrev main_v150 : Ref sig .tc := ⟨.hbm, 549, rfl⟩
abbrev main_v151 : Ref sig .tc := ⟨.hbm, 550, rfl⟩
abbrev main_v152 : Ref sig .tc := ⟨.hbm, 551, rfl⟩
abbrev main_v153 : Ref sig .tc := ⟨.hbm, 552, rfl⟩
abbrev main_call18_c : Ref sig .tc := ⟨.hbm, 553, rfl⟩
abbrev main_call18_v0 : Ref sig .tc := ⟨.hbm, 554, rfl⟩
abbrev main_call18_v1 : Ref sig .tc := ⟨.hbm, 555, rfl⟩
abbrev main_call18_c_0 : Ref sig .tc := ⟨.hbm, 556, rfl⟩
abbrev main_call18_v2 : Ref sig .tc := ⟨.hbm, 557, rfl⟩
abbrev main_call18_v3 : Ref sig .tc := ⟨.hbm, 558, rfl⟩
abbrev main_call18_v4 : Ref sig .tc := ⟨.hbm, 559, rfl⟩
abbrev main_call18_v5 : Ref sig .tc := ⟨.hbm, 560, rfl⟩
abbrev main_call18_c_1 : Ref sig .tc := ⟨.hbm, 561, rfl⟩
abbrev main_call18_c_2 : Ref sig .tc := ⟨.hbm, 562, rfl⟩
abbrev main_call18_v6 : Ref sig .tc := ⟨.hbm, 563, rfl⟩
abbrev main_call18_v7 : Ref sig .tc := ⟨.hbm, 564, rfl⟩
abbrev main_call18_v8 : Ref sig .tc := ⟨.hbm, 565, rfl⟩
abbrev main_call18_v9 : Ref sig .tc := ⟨.hbm, 566, rfl⟩
abbrev main_call18_v10 : Ref sig .tc := ⟨.hbm, 567, rfl⟩
abbrev main_call18_v11 : Ref sig .tc := ⟨.hbm, 568, rfl⟩
abbrev main_call18_c_3 : Ref sig .tc := ⟨.hbm, 569, rfl⟩
abbrev main_call18_v12 : Ref sig .tc := ⟨.hbm, 570, rfl⟩
abbrev main_call18_v13 : Ref sig .tc := ⟨.hbm, 571, rfl⟩
abbrev main_call18_v14 : Ref sig .tc := ⟨.hbm, 572, rfl⟩
abbrev main_call18_cst : Ref sig .tc := ⟨.hbm, 573, rfl⟩
abbrev main_call18_v15 : Ref sig .tc := ⟨.hbm, 574, rfl⟩
abbrev main_v154 : Ref sig .tc := ⟨.hbm, 575, rfl⟩
abbrev main_v155 : Ref sig .tc := ⟨.hbm, 576, rfl⟩
abbrev main_v156 : Ref sig .tc := ⟨.hbm, 577, rfl⟩
abbrev main_v157 : Ref sig .tc := ⟨.hbm, 578, rfl⟩
abbrev main_v158 : Ref sig .tc := ⟨.hbm, 579, rfl⟩
abbrev main_v159 : Ref sig .tc := ⟨.hbm, 580, rfl⟩
abbrev main_v160 : Ref sig .tc := ⟨.hbm, 581, rfl⟩
abbrev main_call19_c : Ref sig .tc := ⟨.hbm, 582, rfl⟩
abbrev main_call19_v0 : Ref sig .tc := ⟨.hbm, 583, rfl⟩
abbrev main_call19_v1 : Ref sig .tc := ⟨.hbm, 584, rfl⟩
abbrev main_call19_c_0 : Ref sig .tc := ⟨.hbm, 585, rfl⟩
abbrev main_call19_v2 : Ref sig .tc := ⟨.hbm, 586, rfl⟩
abbrev main_call19_v3 : Ref sig .tc := ⟨.hbm, 587, rfl⟩
abbrev main_call19_v4 : Ref sig .tc := ⟨.hbm, 588, rfl⟩
abbrev main_call19_v5 : Ref sig .tc := ⟨.hbm, 589, rfl⟩
abbrev main_call19_c_1 : Ref sig .tc := ⟨.hbm, 590, rfl⟩
abbrev main_call19_c_2 : Ref sig .tc := ⟨.hbm, 591, rfl⟩
abbrev main_call19_v6 : Ref sig .tc := ⟨.hbm, 592, rfl⟩
abbrev main_call19_v7 : Ref sig .tc := ⟨.hbm, 593, rfl⟩
abbrev main_call19_v8 : Ref sig .tc := ⟨.hbm, 594, rfl⟩
abbrev main_call19_v9 : Ref sig .tc := ⟨.hbm, 595, rfl⟩
abbrev main_call19_v10 : Ref sig .tc := ⟨.hbm, 596, rfl⟩
abbrev main_call19_v11 : Ref sig .tc := ⟨.hbm, 597, rfl⟩
abbrev main_call19_c_3 : Ref sig .tc := ⟨.hbm, 598, rfl⟩
abbrev main_call19_v12 : Ref sig .tc := ⟨.hbm, 599, rfl⟩
abbrev main_call19_v13 : Ref sig .tc := ⟨.hbm, 600, rfl⟩
abbrev main_call19_v14 : Ref sig .tc := ⟨.hbm, 601, rfl⟩
abbrev main_call19_cst : Ref sig .tc := ⟨.hbm, 602, rfl⟩
abbrev main_call19_v15 : Ref sig .tc := ⟨.hbm, 603, rfl⟩
abbrev main_v161 : Ref sig .tc := ⟨.hbm, 604, rfl⟩
abbrev main_v162 : Ref sig .tc := ⟨.hbm, 605, rfl⟩
abbrev main_v163 : Ref sig .tc := ⟨.hbm, 606, rfl⟩
abbrev main_v164 : Ref sig .tc := ⟨.hbm, 607, rfl⟩
abbrev main_v165 : Ref sig .tc := ⟨.hbm, 608, rfl⟩
abbrev main_v166 : Ref sig .tc := ⟨.hbm, 609, rfl⟩
abbrev main_v167 : Ref sig .tc := ⟨.hbm, 610, rfl⟩
abbrev main_call20_c : Ref sig .tc := ⟨.hbm, 611, rfl⟩
abbrev main_call20_v0 : Ref sig .tc := ⟨.hbm, 612, rfl⟩
abbrev main_call20_v1 : Ref sig .tc := ⟨.hbm, 613, rfl⟩
abbrev main_call20_c_0 : Ref sig .tc := ⟨.hbm, 614, rfl⟩
abbrev main_call20_v2 : Ref sig .tc := ⟨.hbm, 615, rfl⟩
abbrev main_call20_v3 : Ref sig .tc := ⟨.hbm, 616, rfl⟩
abbrev main_call20_v4 : Ref sig .tc := ⟨.hbm, 617, rfl⟩
abbrev main_call20_v5 : Ref sig .tc := ⟨.hbm, 618, rfl⟩
abbrev main_call20_c_1 : Ref sig .tc := ⟨.hbm, 619, rfl⟩
abbrev main_call20_c_2 : Ref sig .tc := ⟨.hbm, 620, rfl⟩
abbrev main_call20_v6 : Ref sig .tc := ⟨.hbm, 621, rfl⟩
abbrev main_call20_v7 : Ref sig .tc := ⟨.hbm, 622, rfl⟩
abbrev main_call20_v8 : Ref sig .tc := ⟨.hbm, 623, rfl⟩
abbrev main_call20_v9 : Ref sig .tc := ⟨.hbm, 624, rfl⟩
abbrev main_call20_v10 : Ref sig .tc := ⟨.hbm, 625, rfl⟩
abbrev main_call20_v11 : Ref sig .tc := ⟨.hbm, 626, rfl⟩
abbrev main_call20_c_3 : Ref sig .tc := ⟨.hbm, 627, rfl⟩
abbrev main_call20_v12 : Ref sig .tc := ⟨.hbm, 628, rfl⟩
abbrev main_call20_v13 : Ref sig .tc := ⟨.hbm, 629, rfl⟩
abbrev main_call20_v14 : Ref sig .tc := ⟨.hbm, 630, rfl⟩
abbrev main_call20_cst : Ref sig .tc := ⟨.hbm, 631, rfl⟩
abbrev main_call20_v15 : Ref sig .tc := ⟨.hbm, 632, rfl⟩
abbrev main_v168 : Ref sig .tc := ⟨.hbm, 633, rfl⟩
abbrev main_v169 : Ref sig .tc := ⟨.hbm, 634, rfl⟩
abbrev main_v170 : Ref sig .tc := ⟨.hbm, 635, rfl⟩
abbrev main_v171 : Ref sig .tc := ⟨.hbm, 636, rfl⟩
abbrev main_v172 : Ref sig .tc := ⟨.hbm, 637, rfl⟩
abbrev main_v173 : Ref sig .tc := ⟨.hbm, 638, rfl⟩
abbrev main_v174 : Ref sig .tc := ⟨.hbm, 639, rfl⟩
abbrev main_call21_c : Ref sig .tc := ⟨.hbm, 640, rfl⟩
abbrev main_call21_v0 : Ref sig .tc := ⟨.hbm, 641, rfl⟩
abbrev main_call21_v1 : Ref sig .tc := ⟨.hbm, 642, rfl⟩
abbrev main_call21_c_0 : Ref sig .tc := ⟨.hbm, 643, rfl⟩
abbrev main_call21_v2 : Ref sig .tc := ⟨.hbm, 644, rfl⟩
abbrev main_call21_v3 : Ref sig .tc := ⟨.hbm, 645, rfl⟩
abbrev main_call21_v4 : Ref sig .tc := ⟨.hbm, 646, rfl⟩
abbrev main_call21_v5 : Ref sig .tc := ⟨.hbm, 647, rfl⟩
abbrev main_call21_c_1 : Ref sig .tc := ⟨.hbm, 648, rfl⟩
abbrev main_call21_c_2 : Ref sig .tc := ⟨.hbm, 649, rfl⟩
abbrev main_call21_v6 : Ref sig .tc := ⟨.hbm, 650, rfl⟩
abbrev main_call21_v7 : Ref sig .tc := ⟨.hbm, 651, rfl⟩
abbrev main_call21_v8 : Ref sig .tc := ⟨.hbm, 652, rfl⟩
abbrev main_call21_v9 : Ref sig .tc := ⟨.hbm, 653, rfl⟩
abbrev main_call21_v10 : Ref sig .tc := ⟨.hbm, 654, rfl⟩
abbrev main_call21_v11 : Ref sig .tc := ⟨.hbm, 655, rfl⟩
abbrev main_call21_c_3 : Ref sig .tc := ⟨.hbm, 656, rfl⟩
abbrev main_call21_v12 : Ref sig .tc := ⟨.hbm, 657, rfl⟩
abbrev main_call21_v13 : Ref sig .tc := ⟨.hbm, 658, rfl⟩
abbrev main_call21_v14 : Ref sig .tc := ⟨.hbm, 659, rfl⟩
abbrev main_call21_cst : Ref sig .tc := ⟨.hbm, 660, rfl⟩
abbrev main_call21_v15 : Ref sig .tc := ⟨.hbm, 661, rfl⟩
abbrev main_v175 : Ref sig .tc := ⟨.hbm, 662, rfl⟩
abbrev main_v176 : Ref sig .tc := ⟨.hbm, 663, rfl⟩
abbrev main_v177 : Ref sig .tc := ⟨.hbm, 664, rfl⟩
abbrev main_v178 : Ref sig .tc := ⟨.hbm, 665, rfl⟩
abbrev main_v179 : Ref sig .tc := ⟨.hbm, 666, rfl⟩
abbrev main_v180 : Ref sig .tc := ⟨.hbm, 667, rfl⟩
abbrev main_v181 : Ref sig .tc := ⟨.hbm, 668, rfl⟩
abbrev main_call22_c : Ref sig .tc := ⟨.hbm, 669, rfl⟩
abbrev main_call22_v0 : Ref sig .tc := ⟨.hbm, 670, rfl⟩
abbrev main_call22_v1 : Ref sig .tc := ⟨.hbm, 671, rfl⟩
abbrev main_call22_c_0 : Ref sig .tc := ⟨.hbm, 672, rfl⟩
abbrev main_call22_v2 : Ref sig .tc := ⟨.hbm, 673, rfl⟩
abbrev main_call22_v3 : Ref sig .tc := ⟨.hbm, 674, rfl⟩
abbrev main_call22_v4 : Ref sig .tc := ⟨.hbm, 675, rfl⟩
abbrev main_call22_v5 : Ref sig .tc := ⟨.hbm, 676, rfl⟩
abbrev main_call22_c_1 : Ref sig .tc := ⟨.hbm, 677, rfl⟩
abbrev main_call22_c_2 : Ref sig .tc := ⟨.hbm, 678, rfl⟩
abbrev main_call22_v6 : Ref sig .tc := ⟨.hbm, 679, rfl⟩
abbrev main_call22_v7 : Ref sig .tc := ⟨.hbm, 680, rfl⟩
abbrev main_call22_v8 : Ref sig .tc := ⟨.hbm, 681, rfl⟩
abbrev main_call22_v9 : Ref sig .tc := ⟨.hbm, 682, rfl⟩
abbrev main_call22_v10 : Ref sig .tc := ⟨.hbm, 683, rfl⟩
abbrev main_call22_v11 : Ref sig .tc := ⟨.hbm, 684, rfl⟩
abbrev main_call22_c_3 : Ref sig .tc := ⟨.hbm, 685, rfl⟩
abbrev main_call22_v12 : Ref sig .tc := ⟨.hbm, 686, rfl⟩
abbrev main_call22_v13 : Ref sig .tc := ⟨.hbm, 687, rfl⟩
abbrev main_call22_v14 : Ref sig .tc := ⟨.hbm, 688, rfl⟩
abbrev main_call22_cst : Ref sig .tc := ⟨.hbm, 689, rfl⟩
abbrev main_call22_v15 : Ref sig .tc := ⟨.hbm, 690, rfl⟩
abbrev main_v182 : Ref sig .tc := ⟨.hbm, 691, rfl⟩
abbrev main_v183 : Ref sig .tc := ⟨.hbm, 692, rfl⟩
abbrev main_v184 : Ref sig .tc := ⟨.hbm, 693, rfl⟩
abbrev main_v185 : Ref sig .tc := ⟨.hbm, 694, rfl⟩
abbrev main_v186 : Ref sig .tc := ⟨.hbm, 695, rfl⟩
abbrev main_v187 : Ref sig .tc := ⟨.hbm, 696, rfl⟩
abbrev main_v188 : Ref sig .tc := ⟨.hbm, 697, rfl⟩
abbrev main_call23_c : Ref sig .tc := ⟨.hbm, 698, rfl⟩
abbrev main_call23_v0 : Ref sig .tc := ⟨.hbm, 699, rfl⟩
abbrev main_call23_v1 : Ref sig .tc := ⟨.hbm, 700, rfl⟩
abbrev main_call23_c_0 : Ref sig .tc := ⟨.hbm, 701, rfl⟩
abbrev main_call23_v2 : Ref sig .tc := ⟨.hbm, 702, rfl⟩
abbrev main_call23_v3 : Ref sig .tc := ⟨.hbm, 703, rfl⟩
abbrev main_call23_v4 : Ref sig .tc := ⟨.hbm, 704, rfl⟩
abbrev main_call23_v5 : Ref sig .tc := ⟨.hbm, 705, rfl⟩
abbrev main_call23_c_1 : Ref sig .tc := ⟨.hbm, 706, rfl⟩
abbrev main_call23_c_2 : Ref sig .tc := ⟨.hbm, 707, rfl⟩
abbrev main_call23_v6 : Ref sig .tc := ⟨.hbm, 708, rfl⟩
abbrev main_call23_v7 : Ref sig .tc := ⟨.hbm, 709, rfl⟩
abbrev main_call23_v8 : Ref sig .tc := ⟨.hbm, 710, rfl⟩
abbrev main_call23_v9 : Ref sig .tc := ⟨.hbm, 711, rfl⟩
abbrev main_call23_v10 : Ref sig .tc := ⟨.hbm, 712, rfl⟩
abbrev main_call23_v11 : Ref sig .tc := ⟨.hbm, 713, rfl⟩
abbrev main_call23_c_3 : Ref sig .tc := ⟨.hbm, 714, rfl⟩
abbrev main_call23_v12 : Ref sig .tc := ⟨.hbm, 715, rfl⟩
abbrev main_call23_v13 : Ref sig .tc := ⟨.hbm, 716, rfl⟩
abbrev main_call23_v14 : Ref sig .tc := ⟨.hbm, 717, rfl⟩
abbrev main_call23_cst : Ref sig .tc := ⟨.hbm, 718, rfl⟩
abbrev main_call23_v15 : Ref sig .tc := ⟨.hbm, 719, rfl⟩
abbrev main_v189 : Ref sig .tc := ⟨.hbm, 720, rfl⟩
abbrev main_v190 : Ref sig .tc := ⟨.hbm, 721, rfl⟩
abbrev main_v191 : Ref sig .tc := ⟨.hbm, 722, rfl⟩
abbrev main_v192 : Ref sig .tc := ⟨.hbm, 723, rfl⟩
abbrev main_v193 : Ref sig .tc := ⟨.hbm, 724, rfl⟩
abbrev main_v194 : Ref sig .tc := ⟨.hbm, 725, rfl⟩
abbrev main_v195 : Ref sig .tc := ⟨.hbm, 726, rfl⟩
abbrev main_call24_c : Ref sig .tc := ⟨.hbm, 727, rfl⟩
abbrev main_call24_v0 : Ref sig .tc := ⟨.hbm, 728, rfl⟩
abbrev main_call24_v1 : Ref sig .tc := ⟨.hbm, 729, rfl⟩
abbrev main_call24_c_0 : Ref sig .tc := ⟨.hbm, 730, rfl⟩
abbrev main_call24_v2 : Ref sig .tc := ⟨.hbm, 731, rfl⟩
abbrev main_call24_v3 : Ref sig .tc := ⟨.hbm, 732, rfl⟩
abbrev main_call24_v4 : Ref sig .tc := ⟨.hbm, 733, rfl⟩
abbrev main_call24_v5 : Ref sig .tc := ⟨.hbm, 734, rfl⟩
abbrev main_call24_c_1 : Ref sig .tc := ⟨.hbm, 735, rfl⟩
abbrev main_call24_c_2 : Ref sig .tc := ⟨.hbm, 736, rfl⟩
abbrev main_call24_v6 : Ref sig .tc := ⟨.hbm, 737, rfl⟩
abbrev main_call24_v7 : Ref sig .tc := ⟨.hbm, 738, rfl⟩
abbrev main_call24_v8 : Ref sig .tc := ⟨.hbm, 739, rfl⟩
abbrev main_call24_v9 : Ref sig .tc := ⟨.hbm, 740, rfl⟩
abbrev main_call24_v10 : Ref sig .tc := ⟨.hbm, 741, rfl⟩
abbrev main_call24_v11 : Ref sig .tc := ⟨.hbm, 742, rfl⟩
abbrev main_call24_c_3 : Ref sig .tc := ⟨.hbm, 743, rfl⟩
abbrev main_call24_v12 : Ref sig .tc := ⟨.hbm, 744, rfl⟩
abbrev main_call24_v13 : Ref sig .tc := ⟨.hbm, 745, rfl⟩
abbrev main_call24_v14 : Ref sig .tc := ⟨.hbm, 746, rfl⟩
abbrev main_call24_cst : Ref sig .tc := ⟨.hbm, 747, rfl⟩
abbrev main_call24_v15 : Ref sig .tc := ⟨.hbm, 748, rfl⟩
abbrev main_v196 : Ref sig .tc := ⟨.hbm, 749, rfl⟩
abbrev main_v197 : Ref sig .tc := ⟨.hbm, 750, rfl⟩
abbrev main_v198 : Ref sig .tc := ⟨.hbm, 751, rfl⟩
abbrev main_v199 : Ref sig .tc := ⟨.hbm, 752, rfl⟩
abbrev main_v200 : Ref sig .tc := ⟨.hbm, 753, rfl⟩
abbrev main_v201 : Ref sig .tc := ⟨.hbm, 754, rfl⟩
abbrev main_v202 : Ref sig .tc := ⟨.hbm, 755, rfl⟩
abbrev main_call25_c : Ref sig .tc := ⟨.hbm, 756, rfl⟩
abbrev main_call25_v0 : Ref sig .tc := ⟨.hbm, 757, rfl⟩
abbrev main_call25_v1 : Ref sig .tc := ⟨.hbm, 758, rfl⟩
abbrev main_call25_c_0 : Ref sig .tc := ⟨.hbm, 759, rfl⟩
abbrev main_call25_v2 : Ref sig .tc := ⟨.hbm, 760, rfl⟩
abbrev main_call25_v3 : Ref sig .tc := ⟨.hbm, 761, rfl⟩
abbrev main_call25_v4 : Ref sig .tc := ⟨.hbm, 762, rfl⟩
abbrev main_call25_v5 : Ref sig .tc := ⟨.hbm, 763, rfl⟩
abbrev main_call25_c_1 : Ref sig .tc := ⟨.hbm, 764, rfl⟩
abbrev main_call25_c_2 : Ref sig .tc := ⟨.hbm, 765, rfl⟩
abbrev main_call25_v6 : Ref sig .tc := ⟨.hbm, 766, rfl⟩
abbrev main_call25_v7 : Ref sig .tc := ⟨.hbm, 767, rfl⟩
abbrev main_call25_v8 : Ref sig .tc := ⟨.hbm, 768, rfl⟩
abbrev main_call25_v9 : Ref sig .tc := ⟨.hbm, 769, rfl⟩
abbrev main_call25_v10 : Ref sig .tc := ⟨.hbm, 770, rfl⟩
abbrev main_call25_v11 : Ref sig .tc := ⟨.hbm, 771, rfl⟩
abbrev main_call25_c_3 : Ref sig .tc := ⟨.hbm, 772, rfl⟩
abbrev main_call25_v12 : Ref sig .tc := ⟨.hbm, 773, rfl⟩
abbrev main_call25_v13 : Ref sig .tc := ⟨.hbm, 774, rfl⟩
abbrev main_call25_v14 : Ref sig .tc := ⟨.hbm, 775, rfl⟩
abbrev main_call25_cst : Ref sig .tc := ⟨.hbm, 776, rfl⟩
abbrev main_call25_v15 : Ref sig .tc := ⟨.hbm, 777, rfl⟩
abbrev main_v203 : Ref sig .tc := ⟨.hbm, 778, rfl⟩
abbrev main_v204 : Ref sig .tc := ⟨.hbm, 779, rfl⟩
abbrev main_v205 : Ref sig .tc := ⟨.hbm, 780, rfl⟩
abbrev main_v206 : Ref sig .tc := ⟨.hbm, 781, rfl⟩
abbrev main_v207 : Ref sig .tc := ⟨.hbm, 782, rfl⟩
abbrev main_v208 : Ref sig .tc := ⟨.hbm, 783, rfl⟩
abbrev main_v209 : Ref sig .tc := ⟨.hbm, 784, rfl⟩
abbrev main_call26_c : Ref sig .tc := ⟨.hbm, 785, rfl⟩
abbrev main_call26_v0 : Ref sig .tc := ⟨.hbm, 786, rfl⟩
abbrev main_call26_v1 : Ref sig .tc := ⟨.hbm, 787, rfl⟩
abbrev main_call26_c_0 : Ref sig .tc := ⟨.hbm, 788, rfl⟩
abbrev main_call26_v2 : Ref sig .tc := ⟨.hbm, 789, rfl⟩
abbrev main_call26_v3 : Ref sig .tc := ⟨.hbm, 790, rfl⟩
abbrev main_call26_v4 : Ref sig .tc := ⟨.hbm, 791, rfl⟩
abbrev main_call26_v5 : Ref sig .tc := ⟨.hbm, 792, rfl⟩
abbrev main_call26_c_1 : Ref sig .tc := ⟨.hbm, 793, rfl⟩
abbrev main_call26_c_2 : Ref sig .tc := ⟨.hbm, 794, rfl⟩
abbrev main_call26_v6 : Ref sig .tc := ⟨.hbm, 795, rfl⟩
abbrev main_call26_v7 : Ref sig .tc := ⟨.hbm, 796, rfl⟩
abbrev main_call26_v8 : Ref sig .tc := ⟨.hbm, 797, rfl⟩
abbrev main_call26_v9 : Ref sig .tc := ⟨.hbm, 798, rfl⟩
abbrev main_call26_v10 : Ref sig .tc := ⟨.hbm, 799, rfl⟩
abbrev main_call26_v11 : Ref sig .tc := ⟨.hbm, 800, rfl⟩
abbrev main_call26_c_3 : Ref sig .tc := ⟨.hbm, 801, rfl⟩
abbrev main_call26_v12 : Ref sig .tc := ⟨.hbm, 802, rfl⟩
abbrev main_call26_v13 : Ref sig .tc := ⟨.hbm, 803, rfl⟩
abbrev main_call26_v14 : Ref sig .tc := ⟨.hbm, 804, rfl⟩
abbrev main_call26_cst : Ref sig .tc := ⟨.hbm, 805, rfl⟩
abbrev main_call26_v15 : Ref sig .tc := ⟨.hbm, 806, rfl⟩
abbrev main_v210 : Ref sig .tc := ⟨.hbm, 807, rfl⟩
abbrev main_v211 : Ref sig .tc := ⟨.hbm, 808, rfl⟩
abbrev main_v212 : Ref sig .tc := ⟨.hbm, 809, rfl⟩
abbrev main_v213 : Ref sig .tc := ⟨.hbm, 810, rfl⟩
abbrev main_v214 : Ref sig .tc := ⟨.hbm, 811, rfl⟩
abbrev main_v215 : Ref sig .tc := ⟨.hbm, 812, rfl⟩
abbrev main_v216 : Ref sig .tc := ⟨.hbm, 813, rfl⟩
abbrev main_call27_c : Ref sig .tc := ⟨.hbm, 814, rfl⟩
abbrev main_call27_v0 : Ref sig .tc := ⟨.hbm, 815, rfl⟩
abbrev main_call27_v1 : Ref sig .tc := ⟨.hbm, 816, rfl⟩
abbrev main_call27_c_0 : Ref sig .tc := ⟨.hbm, 817, rfl⟩
abbrev main_call27_v2 : Ref sig .tc := ⟨.hbm, 818, rfl⟩
abbrev main_call27_v3 : Ref sig .tc := ⟨.hbm, 819, rfl⟩
abbrev main_call27_v4 : Ref sig .tc := ⟨.hbm, 820, rfl⟩
abbrev main_call27_v5 : Ref sig .tc := ⟨.hbm, 821, rfl⟩
abbrev main_call27_c_1 : Ref sig .tc := ⟨.hbm, 822, rfl⟩
abbrev main_call27_c_2 : Ref sig .tc := ⟨.hbm, 823, rfl⟩
abbrev main_call27_v6 : Ref sig .tc := ⟨.hbm, 824, rfl⟩
abbrev main_call27_v7 : Ref sig .tc := ⟨.hbm, 825, rfl⟩
abbrev main_call27_v8 : Ref sig .tc := ⟨.hbm, 826, rfl⟩
abbrev main_call27_v9 : Ref sig .tc := ⟨.hbm, 827, rfl⟩
abbrev main_call27_v10 : Ref sig .tc := ⟨.hbm, 828, rfl⟩
abbrev main_call27_v11 : Ref sig .tc := ⟨.hbm, 829, rfl⟩
abbrev main_call27_c_3 : Ref sig .tc := ⟨.hbm, 830, rfl⟩
abbrev main_call27_v12 : Ref sig .tc := ⟨.hbm, 831, rfl⟩
abbrev main_call27_v13 : Ref sig .tc := ⟨.hbm, 832, rfl⟩
abbrev main_call27_v14 : Ref sig .tc := ⟨.hbm, 833, rfl⟩
abbrev main_call27_cst : Ref sig .tc := ⟨.hbm, 834, rfl⟩
abbrev main_call27_v15 : Ref sig .tc := ⟨.hbm, 835, rfl⟩
abbrev main_v217 : Ref sig .tc := ⟨.hbm, 836, rfl⟩
abbrev main_v218 : Ref sig .tc := ⟨.hbm, 837, rfl⟩
abbrev main_v219 : Ref sig .tc := ⟨.hbm, 838, rfl⟩
abbrev main_v220 : Ref sig .tc := ⟨.hbm, 839, rfl⟩
abbrev main_v221 : Ref sig .tc := ⟨.hbm, 840, rfl⟩
abbrev main_cst_5 : Ref sig .tc := ⟨.hbm, 841, rfl⟩
abbrev main_v222 : Ref sig .tc := ⟨.hbm, 842, rfl⟩
abbrev main_v223 : Ref sig .tc := ⟨.hbm, 843, rfl⟩
abbrev main_v224 : Ref sig .tc := ⟨.hbm, 844, rfl⟩
abbrev main_v225 : Ref sig .tc := ⟨.hbm, 845, rfl⟩
abbrev main_v226 : Ref sig .tc := ⟨.hbm, 846, rfl⟩
abbrev main_v227 : Ref sig .tc := ⟨.hbm, 847, rfl⟩
abbrev main_v228 : Ref sig .tc := ⟨.hbm, 848, rfl⟩
abbrev main_v229 : Ref sig .tc := ⟨.hbm, 849, rfl⟩
abbrev main_v230 : Ref sig .tc := ⟨.hbm, 850, rfl⟩
abbrev main_v231 : Ref sig .tc := ⟨.hbm, 851, rfl⟩
abbrev main_cst_6 : Ref sig .tc := ⟨.hbm, 852, rfl⟩
abbrev main_v232 : Ref sig .tc := ⟨.hbm, 853, rfl⟩
abbrev main_v233 : Ref sig .tc := ⟨.hbm, 854, rfl⟩
abbrev main_cst_7 : Ref sig .tc := ⟨.hbm, 855, rfl⟩
abbrev main_v234 : Ref sig .tc := ⟨.hbm, 856, rfl⟩
abbrev main_v235 : Ref sig .tc := ⟨.hbm, 857, rfl⟩
abbrev main_v236 : Ref sig .tc := ⟨.hbm, 858, rfl⟩
abbrev main_v237 : Ref sig .tc := ⟨.hbm, 859, rfl⟩
abbrev main_v238 : Ref sig .tc := ⟨.hbm, 860, rfl⟩
abbrev main_cst_8 : Ref sig .tc := ⟨.hbm, 861, rfl⟩
abbrev main_v239 : Ref sig .tc := ⟨.hbm, 862, rfl⟩
abbrev main_v240 : Ref sig .tc := ⟨.hbm, 863, rfl⟩
abbrev main_cst_9 : Ref sig .tc := ⟨.hbm, 864, rfl⟩
abbrev main_v241 : Ref sig .tc := ⟨.hbm, 865, rfl⟩
abbrev main_v242 : Ref sig .tc := ⟨.hbm, 866, rfl⟩
abbrev main_v243 : Ref sig .tc := ⟨.hbm, 867, rfl⟩
abbrev main_v244 : Ref sig .tc := ⟨.hbm, 868, rfl⟩
abbrev main_cst_10 : Ref sig .tc := ⟨.hbm, 869, rfl⟩
abbrev main_v245 : Ref sig .tc := ⟨.hbm, 870, rfl⟩
abbrev main_v246 : Ref sig .tc := ⟨.hbm, 871, rfl⟩
abbrev main_v247 : Ref sig .tc := ⟨.hbm, 872, rfl⟩
abbrev main_v248 : Ref sig .tc := ⟨.hbm, 873, rfl⟩
abbrev main_v249 : Ref sig .tc := ⟨.hbm, 874, rfl⟩
abbrev main_call28_v0 : Ref sig .tc := ⟨.hbm, 875, rfl⟩
abbrev main_call28_v1 : Ref sig .tc := ⟨.hbm, 876, rfl⟩
abbrev main_call28_cst : Ref sig .tc := ⟨.hbm, 877, rfl⟩
abbrev main_call28_v2 : Ref sig .tc := ⟨.hbm, 878, rfl⟩
abbrev main_call28_v3 : Ref sig .tc := ⟨.hbm, 879, rfl⟩
abbrev main_call28_cst_0 : Ref sig .tc := ⟨.hbm, 880, rfl⟩
abbrev main_call28_v4 : Ref sig .tc := ⟨.hbm, 881, rfl⟩
abbrev main_call28_v5 : Ref sig .tc := ⟨.hbm, 882, rfl⟩
abbrev main_v250 : Ref sig .tc := ⟨.hbm, 883, rfl⟩
abbrev main_cst_11 : Ref sig .tc := ⟨.hbm, 884, rfl⟩
abbrev main_v251 : Ref sig .tc := ⟨.hbm, 885, rfl⟩
abbrev main_v252 : Ref sig .tc := ⟨.hbm, 886, rfl⟩
abbrev main_v253 : Ref sig .tc := ⟨.hbm, 887, rfl⟩
abbrev main_v254 : Ref sig .tc := ⟨.hbm, 888, rfl⟩
abbrev main_v255 : Ref sig .tc := ⟨.hbm, 889, rfl⟩
abbrev main_v256 : Ref sig .tc := ⟨.hbm, 890, rfl⟩
abbrev main_call29_c : Ref sig .tc := ⟨.hbm, 891, rfl⟩
abbrev main_call29_v0 : Ref sig .tc := ⟨.hbm, 892, rfl⟩
abbrev main_call29_v1 : Ref sig .tc := ⟨.hbm, 893, rfl⟩
abbrev main_call29_c_0 : Ref sig .tc := ⟨.hbm, 894, rfl⟩
abbrev main_call29_v2 : Ref sig .tc := ⟨.hbm, 895, rfl⟩
abbrev main_call29_v3 : Ref sig .tc := ⟨.hbm, 896, rfl⟩
abbrev main_call29_v4 : Ref sig .tc := ⟨.hbm, 897, rfl⟩
abbrev main_call29_v5 : Ref sig .tc := ⟨.hbm, 898, rfl⟩
abbrev main_call29_c_1 : Ref sig .tc := ⟨.hbm, 899, rfl⟩
abbrev main_call29_c_2 : Ref sig .tc := ⟨.hbm, 900, rfl⟩
abbrev main_call29_v6 : Ref sig .tc := ⟨.hbm, 901, rfl⟩
abbrev main_call29_v7 : Ref sig .tc := ⟨.hbm, 902, rfl⟩
abbrev main_call29_v8 : Ref sig .tc := ⟨.hbm, 903, rfl⟩
abbrev main_call29_v9 : Ref sig .tc := ⟨.hbm, 904, rfl⟩
abbrev main_call29_v10 : Ref sig .tc := ⟨.hbm, 905, rfl⟩
abbrev main_call29_v11 : Ref sig .tc := ⟨.hbm, 906, rfl⟩
abbrev main_call29_c_3 : Ref sig .tc := ⟨.hbm, 907, rfl⟩
abbrev main_call29_v12 : Ref sig .tc := ⟨.hbm, 908, rfl⟩
abbrev main_call29_v13 : Ref sig .tc := ⟨.hbm, 909, rfl⟩
abbrev main_call29_v14 : Ref sig .tc := ⟨.hbm, 910, rfl⟩
abbrev main_call29_cst : Ref sig .tc := ⟨.hbm, 911, rfl⟩
abbrev main_call29_v15 : Ref sig .tc := ⟨.hbm, 912, rfl⟩
abbrev main_v257 : Ref sig .tc := ⟨.hbm, 913, rfl⟩
abbrev main_v258 : Ref sig .tc := ⟨.hbm, 914, rfl⟩
abbrev main_v259 : Ref sig .tc := ⟨.hbm, 915, rfl⟩
abbrev main_v260 : Ref sig .tc := ⟨.hbm, 916, rfl⟩
abbrev main_v261 : Ref sig .tc := ⟨.hbm, 917, rfl⟩
abbrev main_v262 : Ref sig .tc := ⟨.hbm, 918, rfl⟩
abbrev main_v263 : Ref sig .tc := ⟨.hbm, 919, rfl⟩
abbrev main_call30_c : Ref sig .tc := ⟨.hbm, 920, rfl⟩
abbrev main_call30_v0 : Ref sig .tc := ⟨.hbm, 921, rfl⟩
abbrev main_call30_v1 : Ref sig .tc := ⟨.hbm, 922, rfl⟩
abbrev main_call30_c_0 : Ref sig .tc := ⟨.hbm, 923, rfl⟩
abbrev main_call30_v2 : Ref sig .tc := ⟨.hbm, 924, rfl⟩
abbrev main_call30_v3 : Ref sig .tc := ⟨.hbm, 925, rfl⟩
abbrev main_call30_v4 : Ref sig .tc := ⟨.hbm, 926, rfl⟩
abbrev main_call30_v5 : Ref sig .tc := ⟨.hbm, 927, rfl⟩
abbrev main_call30_c_1 : Ref sig .tc := ⟨.hbm, 928, rfl⟩
abbrev main_call30_c_2 : Ref sig .tc := ⟨.hbm, 929, rfl⟩
abbrev main_call30_v6 : Ref sig .tc := ⟨.hbm, 930, rfl⟩
abbrev main_call30_v7 : Ref sig .tc := ⟨.hbm, 931, rfl⟩
abbrev main_call30_v8 : Ref sig .tc := ⟨.hbm, 932, rfl⟩
abbrev main_call30_v9 : Ref sig .tc := ⟨.hbm, 933, rfl⟩
abbrev main_call30_v10 : Ref sig .tc := ⟨.hbm, 934, rfl⟩
abbrev main_call30_v11 : Ref sig .tc := ⟨.hbm, 935, rfl⟩
abbrev main_call30_c_3 : Ref sig .tc := ⟨.hbm, 936, rfl⟩
abbrev main_call30_v12 : Ref sig .tc := ⟨.hbm, 937, rfl⟩
abbrev main_call30_v13 : Ref sig .tc := ⟨.hbm, 938, rfl⟩
abbrev main_call30_v14 : Ref sig .tc := ⟨.hbm, 939, rfl⟩
abbrev main_call30_cst : Ref sig .tc := ⟨.hbm, 940, rfl⟩
abbrev main_call30_v15 : Ref sig .tc := ⟨.hbm, 941, rfl⟩
abbrev main_v264 : Ref sig .tc := ⟨.hbm, 942, rfl⟩
abbrev main_v265 : Ref sig .tc := ⟨.hbm, 943, rfl⟩
abbrev main_v266 : Ref sig .tc := ⟨.hbm, 944, rfl⟩
abbrev main_v267 : Ref sig .tc := ⟨.hbm, 945, rfl⟩
abbrev main_v268 : Ref sig .tc := ⟨.hbm, 946, rfl⟩
abbrev main_v269 : Ref sig .tc := ⟨.hbm, 947, rfl⟩
abbrev main_v270 : Ref sig .tc := ⟨.hbm, 948, rfl⟩
abbrev main_call31_c : Ref sig .tc := ⟨.hbm, 949, rfl⟩
abbrev main_call31_v0 : Ref sig .tc := ⟨.hbm, 950, rfl⟩
abbrev main_call31_v1 : Ref sig .tc := ⟨.hbm, 951, rfl⟩
abbrev main_call31_c_0 : Ref sig .tc := ⟨.hbm, 952, rfl⟩
abbrev main_call31_v2 : Ref sig .tc := ⟨.hbm, 953, rfl⟩
abbrev main_call31_v3 : Ref sig .tc := ⟨.hbm, 954, rfl⟩
abbrev main_call31_v4 : Ref sig .tc := ⟨.hbm, 955, rfl⟩
abbrev main_call31_v5 : Ref sig .tc := ⟨.hbm, 956, rfl⟩
abbrev main_call31_c_1 : Ref sig .tc := ⟨.hbm, 957, rfl⟩
abbrev main_call31_c_2 : Ref sig .tc := ⟨.hbm, 958, rfl⟩
abbrev main_call31_v6 : Ref sig .tc := ⟨.hbm, 959, rfl⟩
abbrev main_call31_v7 : Ref sig .tc := ⟨.hbm, 960, rfl⟩
abbrev main_call31_v8 : Ref sig .tc := ⟨.hbm, 961, rfl⟩
abbrev main_call31_v9 : Ref sig .tc := ⟨.hbm, 962, rfl⟩
abbrev main_call31_v10 : Ref sig .tc := ⟨.hbm, 963, rfl⟩
abbrev main_call31_v11 : Ref sig .tc := ⟨.hbm, 964, rfl⟩
abbrev main_call31_c_3 : Ref sig .tc := ⟨.hbm, 965, rfl⟩
abbrev main_call31_v12 : Ref sig .tc := ⟨.hbm, 966, rfl⟩
abbrev main_call31_v13 : Ref sig .tc := ⟨.hbm, 967, rfl⟩
abbrev main_call31_v14 : Ref sig .tc := ⟨.hbm, 968, rfl⟩
abbrev main_call31_cst : Ref sig .tc := ⟨.hbm, 969, rfl⟩
abbrev main_call31_v15 : Ref sig .tc := ⟨.hbm, 970, rfl⟩
abbrev main_v271 : Ref sig .tc := ⟨.hbm, 971, rfl⟩
abbrev main_v272 : Ref sig .tc := ⟨.hbm, 972, rfl⟩
abbrev main_v273 : Ref sig .tc := ⟨.hbm, 973, rfl⟩
abbrev main_v274 : Ref sig .tc := ⟨.hbm, 974, rfl⟩
abbrev main_v275 : Ref sig .tc := ⟨.hbm, 975, rfl⟩
abbrev main_v276 : Ref sig .tc := ⟨.hbm, 976, rfl⟩
abbrev main_v277 : Ref sig .tc := ⟨.hbm, 977, rfl⟩
abbrev main_call32_c : Ref sig .tc := ⟨.hbm, 978, rfl⟩
abbrev main_call32_v0 : Ref sig .tc := ⟨.hbm, 979, rfl⟩
abbrev main_call32_v1 : Ref sig .tc := ⟨.hbm, 980, rfl⟩
abbrev main_call32_c_0 : Ref sig .tc := ⟨.hbm, 981, rfl⟩
abbrev main_call32_v2 : Ref sig .tc := ⟨.hbm, 982, rfl⟩
abbrev main_call32_v3 : Ref sig .tc := ⟨.hbm, 983, rfl⟩
abbrev main_call32_v4 : Ref sig .tc := ⟨.hbm, 984, rfl⟩
abbrev main_call32_v5 : Ref sig .tc := ⟨.hbm, 985, rfl⟩
abbrev main_call32_c_1 : Ref sig .tc := ⟨.hbm, 986, rfl⟩
abbrev main_call32_c_2 : Ref sig .tc := ⟨.hbm, 987, rfl⟩
abbrev main_call32_v6 : Ref sig .tc := ⟨.hbm, 988, rfl⟩
abbrev main_call32_v7 : Ref sig .tc := ⟨.hbm, 989, rfl⟩
abbrev main_call32_v8 : Ref sig .tc := ⟨.hbm, 990, rfl⟩
abbrev main_call32_v9 : Ref sig .tc := ⟨.hbm, 991, rfl⟩
abbrev main_call32_v10 : Ref sig .tc := ⟨.hbm, 992, rfl⟩
abbrev main_call32_v11 : Ref sig .tc := ⟨.hbm, 993, rfl⟩
abbrev main_call32_c_3 : Ref sig .tc := ⟨.hbm, 994, rfl⟩
abbrev main_call32_v12 : Ref sig .tc := ⟨.hbm, 995, rfl⟩
abbrev main_call32_v13 : Ref sig .tc := ⟨.hbm, 996, rfl⟩
abbrev main_call32_v14 : Ref sig .tc := ⟨.hbm, 997, rfl⟩
abbrev main_call32_cst : Ref sig .tc := ⟨.hbm, 998, rfl⟩
abbrev main_call32_v15 : Ref sig .tc := ⟨.hbm, 999, rfl⟩
abbrev main_v278 : Ref sig .tc := ⟨.hbm, 1000, rfl⟩
abbrev main_v279 : Ref sig .tc := ⟨.hbm, 1001, rfl⟩
abbrev main_v280 : Ref sig .tc := ⟨.hbm, 1002, rfl⟩
abbrev main_v281 : Ref sig .tc := ⟨.hbm, 1003, rfl⟩
abbrev main_v282 : Ref sig .tc := ⟨.hbm, 1004, rfl⟩
abbrev main_v283 : Ref sig .tc := ⟨.hbm, 1005, rfl⟩
abbrev main_v284 : Ref sig .tc := ⟨.hbm, 1006, rfl⟩
abbrev main_call33_c : Ref sig .tc := ⟨.hbm, 1007, rfl⟩
abbrev main_call33_v0 : Ref sig .tc := ⟨.hbm, 1008, rfl⟩
abbrev main_call33_v1 : Ref sig .tc := ⟨.hbm, 1009, rfl⟩
abbrev main_call33_c_0 : Ref sig .tc := ⟨.hbm, 1010, rfl⟩
abbrev main_call33_v2 : Ref sig .tc := ⟨.hbm, 1011, rfl⟩
abbrev main_call33_v3 : Ref sig .tc := ⟨.hbm, 1012, rfl⟩
abbrev main_call33_v4 : Ref sig .tc := ⟨.hbm, 1013, rfl⟩
abbrev main_call33_v5 : Ref sig .tc := ⟨.hbm, 1014, rfl⟩
abbrev main_call33_c_1 : Ref sig .tc := ⟨.hbm, 1015, rfl⟩
abbrev main_call33_c_2 : Ref sig .tc := ⟨.hbm, 1016, rfl⟩
abbrev main_call33_v6 : Ref sig .tc := ⟨.hbm, 1017, rfl⟩
abbrev main_call33_v7 : Ref sig .tc := ⟨.hbm, 1018, rfl⟩
abbrev main_call33_v8 : Ref sig .tc := ⟨.hbm, 1019, rfl⟩
abbrev main_call33_v9 : Ref sig .tc := ⟨.hbm, 1020, rfl⟩
abbrev main_call33_v10 : Ref sig .tc := ⟨.hbm, 1021, rfl⟩
abbrev main_call33_v11 : Ref sig .tc := ⟨.hbm, 1022, rfl⟩
abbrev main_call33_c_3 : Ref sig .tc := ⟨.hbm, 1023, rfl⟩
abbrev main_call33_v12 : Ref sig .tc := ⟨.hbm, 1024, rfl⟩
abbrev main_call33_v13 : Ref sig .tc := ⟨.hbm, 1025, rfl⟩
abbrev main_call33_v14 : Ref sig .tc := ⟨.hbm, 1026, rfl⟩
abbrev main_call33_cst : Ref sig .tc := ⟨.hbm, 1027, rfl⟩
abbrev main_call33_v15 : Ref sig .tc := ⟨.hbm, 1028, rfl⟩
abbrev main_v285 : Ref sig .tc := ⟨.hbm, 1029, rfl⟩
abbrev main_v286 : Ref sig .tc := ⟨.hbm, 1030, rfl⟩
abbrev main_v287 : Ref sig .tc := ⟨.hbm, 1031, rfl⟩
abbrev main_v288 : Ref sig .tc := ⟨.hbm, 1032, rfl⟩
abbrev main_v289 : Ref sig .tc := ⟨.hbm, 1033, rfl⟩
abbrev main_v290 : Ref sig .tc := ⟨.hbm, 1034, rfl⟩
abbrev main_v291 : Ref sig .tc := ⟨.hbm, 1035, rfl⟩
abbrev main_call34_c : Ref sig .tc := ⟨.hbm, 1036, rfl⟩
abbrev main_call34_v0 : Ref sig .tc := ⟨.hbm, 1037, rfl⟩
abbrev main_call34_v1 : Ref sig .tc := ⟨.hbm, 1038, rfl⟩
abbrev main_call34_c_0 : Ref sig .tc := ⟨.hbm, 1039, rfl⟩
abbrev main_call34_v2 : Ref sig .tc := ⟨.hbm, 1040, rfl⟩
abbrev main_call34_v3 : Ref sig .tc := ⟨.hbm, 1041, rfl⟩
abbrev main_call34_v4 : Ref sig .tc := ⟨.hbm, 1042, rfl⟩
abbrev main_call34_v5 : Ref sig .tc := ⟨.hbm, 1043, rfl⟩
abbrev main_call34_c_1 : Ref sig .tc := ⟨.hbm, 1044, rfl⟩
abbrev main_call34_c_2 : Ref sig .tc := ⟨.hbm, 1045, rfl⟩
abbrev main_call34_v6 : Ref sig .tc := ⟨.hbm, 1046, rfl⟩
abbrev main_call34_v7 : Ref sig .tc := ⟨.hbm, 1047, rfl⟩
abbrev main_call34_v8 : Ref sig .tc := ⟨.hbm, 1048, rfl⟩
abbrev main_call34_v9 : Ref sig .tc := ⟨.hbm, 1049, rfl⟩
abbrev main_call34_v10 : Ref sig .tc := ⟨.hbm, 1050, rfl⟩
abbrev main_call34_v11 : Ref sig .tc := ⟨.hbm, 1051, rfl⟩
abbrev main_call34_c_3 : Ref sig .tc := ⟨.hbm, 1052, rfl⟩
abbrev main_call34_v12 : Ref sig .tc := ⟨.hbm, 1053, rfl⟩
abbrev main_call34_v13 : Ref sig .tc := ⟨.hbm, 1054, rfl⟩
abbrev main_call34_v14 : Ref sig .tc := ⟨.hbm, 1055, rfl⟩
abbrev main_call34_cst : Ref sig .tc := ⟨.hbm, 1056, rfl⟩
abbrev main_call34_v15 : Ref sig .tc := ⟨.hbm, 1057, rfl⟩
abbrev main_v292 : Ref sig .tc := ⟨.hbm, 1058, rfl⟩
abbrev main_v293 : Ref sig .tc := ⟨.hbm, 1059, rfl⟩
abbrev main_v294 : Ref sig .tc := ⟨.hbm, 1060, rfl⟩
abbrev main_v295 : Ref sig .tc := ⟨.hbm, 1061, rfl⟩
abbrev main_v296 : Ref sig .tc := ⟨.hbm, 1062, rfl⟩
abbrev main_v297 : Ref sig .tc := ⟨.hbm, 1063, rfl⟩
abbrev main_v298 : Ref sig .tc := ⟨.hbm, 1064, rfl⟩
abbrev main_call35_c : Ref sig .tc := ⟨.hbm, 1065, rfl⟩
abbrev main_call35_v0 : Ref sig .tc := ⟨.hbm, 1066, rfl⟩
abbrev main_call35_v1 : Ref sig .tc := ⟨.hbm, 1067, rfl⟩
abbrev main_call35_c_0 : Ref sig .tc := ⟨.hbm, 1068, rfl⟩
abbrev main_call35_v2 : Ref sig .tc := ⟨.hbm, 1069, rfl⟩
abbrev main_call35_v3 : Ref sig .tc := ⟨.hbm, 1070, rfl⟩
abbrev main_call35_v4 : Ref sig .tc := ⟨.hbm, 1071, rfl⟩
abbrev main_call35_v5 : Ref sig .tc := ⟨.hbm, 1072, rfl⟩
abbrev main_call35_c_1 : Ref sig .tc := ⟨.hbm, 1073, rfl⟩
abbrev main_call35_c_2 : Ref sig .tc := ⟨.hbm, 1074, rfl⟩
abbrev main_call35_v6 : Ref sig .tc := ⟨.hbm, 1075, rfl⟩
abbrev main_call35_v7 : Ref sig .tc := ⟨.hbm, 1076, rfl⟩
abbrev main_call35_v8 : Ref sig .tc := ⟨.hbm, 1077, rfl⟩
abbrev main_call35_v9 : Ref sig .tc := ⟨.hbm, 1078, rfl⟩
abbrev main_call35_v10 : Ref sig .tc := ⟨.hbm, 1079, rfl⟩
abbrev main_call35_v11 : Ref sig .tc := ⟨.hbm, 1080, rfl⟩
abbrev main_call35_c_3 : Ref sig .tc := ⟨.hbm, 1081, rfl⟩
abbrev main_call35_v12 : Ref sig .tc := ⟨.hbm, 1082, rfl⟩
abbrev main_call35_v13 : Ref sig .tc := ⟨.hbm, 1083, rfl⟩
abbrev main_call35_v14 : Ref sig .tc := ⟨.hbm, 1084, rfl⟩
abbrev main_call35_cst : Ref sig .tc := ⟨.hbm, 1085, rfl⟩
abbrev main_call35_v15 : Ref sig .tc := ⟨.hbm, 1086, rfl⟩
abbrev main_v299 : Ref sig .tc := ⟨.hbm, 1087, rfl⟩
abbrev main_v300 : Ref sig .tc := ⟨.hbm, 1088, rfl⟩
abbrev main_v301 : Ref sig .tc := ⟨.hbm, 1089, rfl⟩
abbrev main_v302 : Ref sig .tc := ⟨.hbm, 1090, rfl⟩
abbrev main_v303 : Ref sig .tc := ⟨.hbm, 1091, rfl⟩
abbrev main_v304 : Ref sig .tc := ⟨.hbm, 1092, rfl⟩
abbrev main_v305 : Ref sig .tc := ⟨.hbm, 1093, rfl⟩
abbrev main_call36_c : Ref sig .tc := ⟨.hbm, 1094, rfl⟩
abbrev main_call36_v0 : Ref sig .tc := ⟨.hbm, 1095, rfl⟩
abbrev main_call36_v1 : Ref sig .tc := ⟨.hbm, 1096, rfl⟩
abbrev main_call36_c_0 : Ref sig .tc := ⟨.hbm, 1097, rfl⟩
abbrev main_call36_v2 : Ref sig .tc := ⟨.hbm, 1098, rfl⟩
abbrev main_call36_v3 : Ref sig .tc := ⟨.hbm, 1099, rfl⟩
abbrev main_call36_v4 : Ref sig .tc := ⟨.hbm, 1100, rfl⟩
abbrev main_call36_v5 : Ref sig .tc := ⟨.hbm, 1101, rfl⟩
abbrev main_call36_c_1 : Ref sig .tc := ⟨.hbm, 1102, rfl⟩
abbrev main_call36_c_2 : Ref sig .tc := ⟨.hbm, 1103, rfl⟩
abbrev main_call36_v6 : Ref sig .tc := ⟨.hbm, 1104, rfl⟩
abbrev main_call36_v7 : Ref sig .tc := ⟨.hbm, 1105, rfl⟩
abbrev main_call36_v8 : Ref sig .tc := ⟨.hbm, 1106, rfl⟩
abbrev main_call36_v9 : Ref sig .tc := ⟨.hbm, 1107, rfl⟩
abbrev main_call36_v10 : Ref sig .tc := ⟨.hbm, 1108, rfl⟩
abbrev main_call36_v11 : Ref sig .tc := ⟨.hbm, 1109, rfl⟩
abbrev main_call36_c_3 : Ref sig .tc := ⟨.hbm, 1110, rfl⟩
abbrev main_call36_v12 : Ref sig .tc := ⟨.hbm, 1111, rfl⟩
abbrev main_call36_v13 : Ref sig .tc := ⟨.hbm, 1112, rfl⟩
abbrev main_call36_v14 : Ref sig .tc := ⟨.hbm, 1113, rfl⟩
abbrev main_call36_cst : Ref sig .tc := ⟨.hbm, 1114, rfl⟩
abbrev main_call36_v15 : Ref sig .tc := ⟨.hbm, 1115, rfl⟩
abbrev main_v306 : Ref sig .tc := ⟨.hbm, 1116, rfl⟩
abbrev main_v307 : Ref sig .tc := ⟨.hbm, 1117, rfl⟩
abbrev main_v308 : Ref sig .tc := ⟨.hbm, 1118, rfl⟩
abbrev main_v309 : Ref sig .tc := ⟨.hbm, 1119, rfl⟩
abbrev main_v310 : Ref sig .tc := ⟨.hbm, 1120, rfl⟩
abbrev main_v311 : Ref sig .tc := ⟨.hbm, 1121, rfl⟩
abbrev main_v312 : Ref sig .tc := ⟨.hbm, 1122, rfl⟩
abbrev main_call37_c : Ref sig .tc := ⟨.hbm, 1123, rfl⟩
abbrev main_call37_v0 : Ref sig .tc := ⟨.hbm, 1124, rfl⟩
abbrev main_call37_v1 : Ref sig .tc := ⟨.hbm, 1125, rfl⟩
abbrev main_call37_c_0 : Ref sig .tc := ⟨.hbm, 1126, rfl⟩
abbrev main_call37_v2 : Ref sig .tc := ⟨.hbm, 1127, rfl⟩
abbrev main_call37_v3 : Ref sig .tc := ⟨.hbm, 1128, rfl⟩
abbrev main_call37_v4 : Ref sig .tc := ⟨.hbm, 1129, rfl⟩
abbrev main_call37_v5 : Ref sig .tc := ⟨.hbm, 1130, rfl⟩
abbrev main_call37_c_1 : Ref sig .tc := ⟨.hbm, 1131, rfl⟩
abbrev main_call37_c_2 : Ref sig .tc := ⟨.hbm, 1132, rfl⟩
abbrev main_call37_v6 : Ref sig .tc := ⟨.hbm, 1133, rfl⟩
abbrev main_call37_v7 : Ref sig .tc := ⟨.hbm, 1134, rfl⟩
abbrev main_call37_v8 : Ref sig .tc := ⟨.hbm, 1135, rfl⟩
abbrev main_call37_v9 : Ref sig .tc := ⟨.hbm, 1136, rfl⟩
abbrev main_call37_v10 : Ref sig .tc := ⟨.hbm, 1137, rfl⟩
abbrev main_call37_v11 : Ref sig .tc := ⟨.hbm, 1138, rfl⟩
abbrev main_call37_c_3 : Ref sig .tc := ⟨.hbm, 1139, rfl⟩
abbrev main_call37_v12 : Ref sig .tc := ⟨.hbm, 1140, rfl⟩
abbrev main_call37_v13 : Ref sig .tc := ⟨.hbm, 1141, rfl⟩
abbrev main_call37_v14 : Ref sig .tc := ⟨.hbm, 1142, rfl⟩
abbrev main_call37_cst : Ref sig .tc := ⟨.hbm, 1143, rfl⟩
abbrev main_call37_v15 : Ref sig .tc := ⟨.hbm, 1144, rfl⟩
abbrev main_v313 : Ref sig .tc := ⟨.hbm, 1145, rfl⟩
abbrev main_v314 : Ref sig .tc := ⟨.hbm, 1146, rfl⟩
abbrev main_v315 : Ref sig .tc := ⟨.hbm, 1147, rfl⟩
abbrev main_v316 : Ref sig .tc := ⟨.hbm, 1148, rfl⟩
abbrev main_v317 : Ref sig .tc := ⟨.hbm, 1149, rfl⟩
abbrev main_v318 : Ref sig .tc := ⟨.hbm, 1150, rfl⟩
abbrev main_v319 : Ref sig .tc := ⟨.hbm, 1151, rfl⟩
abbrev main_call38_c : Ref sig .tc := ⟨.hbm, 1152, rfl⟩
abbrev main_call38_v0 : Ref sig .tc := ⟨.hbm, 1153, rfl⟩
abbrev main_call38_v1 : Ref sig .tc := ⟨.hbm, 1154, rfl⟩
abbrev main_call38_c_0 : Ref sig .tc := ⟨.hbm, 1155, rfl⟩
abbrev main_call38_v2 : Ref sig .tc := ⟨.hbm, 1156, rfl⟩
abbrev main_call38_v3 : Ref sig .tc := ⟨.hbm, 1157, rfl⟩
abbrev main_call38_v4 : Ref sig .tc := ⟨.hbm, 1158, rfl⟩
abbrev main_call38_v5 : Ref sig .tc := ⟨.hbm, 1159, rfl⟩
abbrev main_call38_c_1 : Ref sig .tc := ⟨.hbm, 1160, rfl⟩
abbrev main_call38_c_2 : Ref sig .tc := ⟨.hbm, 1161, rfl⟩
abbrev main_call38_v6 : Ref sig .tc := ⟨.hbm, 1162, rfl⟩
abbrev main_call38_v7 : Ref sig .tc := ⟨.hbm, 1163, rfl⟩
abbrev main_call38_v8 : Ref sig .tc := ⟨.hbm, 1164, rfl⟩
abbrev main_call38_v9 : Ref sig .tc := ⟨.hbm, 1165, rfl⟩
abbrev main_call38_v10 : Ref sig .tc := ⟨.hbm, 1166, rfl⟩
abbrev main_call38_v11 : Ref sig .tc := ⟨.hbm, 1167, rfl⟩
abbrev main_call38_c_3 : Ref sig .tc := ⟨.hbm, 1168, rfl⟩
abbrev main_call38_v12 : Ref sig .tc := ⟨.hbm, 1169, rfl⟩
abbrev main_call38_v13 : Ref sig .tc := ⟨.hbm, 1170, rfl⟩
abbrev main_call38_v14 : Ref sig .tc := ⟨.hbm, 1171, rfl⟩
abbrev main_call38_cst : Ref sig .tc := ⟨.hbm, 1172, rfl⟩
abbrev main_call38_v15 : Ref sig .tc := ⟨.hbm, 1173, rfl⟩
abbrev main_v320 : Ref sig .tc := ⟨.hbm, 1174, rfl⟩
abbrev main_v321 : Ref sig .tc := ⟨.hbm, 1175, rfl⟩
abbrev main_v322 : Ref sig .tc := ⟨.hbm, 1176, rfl⟩
abbrev main_v323 : Ref sig .tc := ⟨.hbm, 1177, rfl⟩
abbrev main_v324 : Ref sig .tc := ⟨.hbm, 1178, rfl⟩
abbrev main_v325 : Ref sig .tc := ⟨.hbm, 1179, rfl⟩
abbrev main_v326 : Ref sig .tc := ⟨.hbm, 1180, rfl⟩
abbrev main_call39_c : Ref sig .tc := ⟨.hbm, 1181, rfl⟩
abbrev main_call39_v0 : Ref sig .tc := ⟨.hbm, 1182, rfl⟩
abbrev main_call39_v1 : Ref sig .tc := ⟨.hbm, 1183, rfl⟩
abbrev main_call39_c_0 : Ref sig .tc := ⟨.hbm, 1184, rfl⟩
abbrev main_call39_v2 : Ref sig .tc := ⟨.hbm, 1185, rfl⟩
abbrev main_call39_v3 : Ref sig .tc := ⟨.hbm, 1186, rfl⟩
abbrev main_call39_v4 : Ref sig .tc := ⟨.hbm, 1187, rfl⟩
abbrev main_call39_v5 : Ref sig .tc := ⟨.hbm, 1188, rfl⟩
abbrev main_call39_c_1 : Ref sig .tc := ⟨.hbm, 1189, rfl⟩
abbrev main_call39_c_2 : Ref sig .tc := ⟨.hbm, 1190, rfl⟩
abbrev main_call39_v6 : Ref sig .tc := ⟨.hbm, 1191, rfl⟩
abbrev main_call39_v7 : Ref sig .tc := ⟨.hbm, 1192, rfl⟩
abbrev main_call39_v8 : Ref sig .tc := ⟨.hbm, 1193, rfl⟩
abbrev main_call39_v9 : Ref sig .tc := ⟨.hbm, 1194, rfl⟩
abbrev main_call39_v10 : Ref sig .tc := ⟨.hbm, 1195, rfl⟩
abbrev main_call39_v11 : Ref sig .tc := ⟨.hbm, 1196, rfl⟩
abbrev main_call39_c_3 : Ref sig .tc := ⟨.hbm, 1197, rfl⟩
abbrev main_call39_v12 : Ref sig .tc := ⟨.hbm, 1198, rfl⟩
abbrev main_call39_v13 : Ref sig .tc := ⟨.hbm, 1199, rfl⟩
abbrev main_call39_v14 : Ref sig .tc := ⟨.hbm, 1200, rfl⟩
abbrev main_call39_cst : Ref sig .tc := ⟨.hbm, 1201, rfl⟩
abbrev main_call39_v15 : Ref sig .tc := ⟨.hbm, 1202, rfl⟩
abbrev main_v327 : Ref sig .tc := ⟨.hbm, 1203, rfl⟩
abbrev main_v328 : Ref sig .tc := ⟨.hbm, 1204, rfl⟩
abbrev main_v329 : Ref sig .tc := ⟨.hbm, 1205, rfl⟩
abbrev main_v330 : Ref sig .tc := ⟨.hbm, 1206, rfl⟩
abbrev main_v331 : Ref sig .tc := ⟨.hbm, 1207, rfl⟩
abbrev main_v332 : Ref sig .tc := ⟨.hbm, 1208, rfl⟩
abbrev main_v333 : Ref sig .tc := ⟨.hbm, 1209, rfl⟩
abbrev main_call40_c : Ref sig .tc := ⟨.hbm, 1210, rfl⟩
abbrev main_call40_v0 : Ref sig .tc := ⟨.hbm, 1211, rfl⟩
abbrev main_call40_v1 : Ref sig .tc := ⟨.hbm, 1212, rfl⟩
abbrev main_call40_c_0 : Ref sig .tc := ⟨.hbm, 1213, rfl⟩
abbrev main_call40_v2 : Ref sig .tc := ⟨.hbm, 1214, rfl⟩
abbrev main_call40_v3 : Ref sig .tc := ⟨.hbm, 1215, rfl⟩
abbrev main_call40_v4 : Ref sig .tc := ⟨.hbm, 1216, rfl⟩
abbrev main_call40_v5 : Ref sig .tc := ⟨.hbm, 1217, rfl⟩
abbrev main_call40_c_1 : Ref sig .tc := ⟨.hbm, 1218, rfl⟩
abbrev main_call40_c_2 : Ref sig .tc := ⟨.hbm, 1219, rfl⟩
abbrev main_call40_v6 : Ref sig .tc := ⟨.hbm, 1220, rfl⟩
abbrev main_call40_v7 : Ref sig .tc := ⟨.hbm, 1221, rfl⟩
abbrev main_call40_v8 : Ref sig .tc := ⟨.hbm, 1222, rfl⟩
abbrev main_call40_v9 : Ref sig .tc := ⟨.hbm, 1223, rfl⟩
abbrev main_call40_v10 : Ref sig .tc := ⟨.hbm, 1224, rfl⟩
abbrev main_call40_v11 : Ref sig .tc := ⟨.hbm, 1225, rfl⟩
abbrev main_call40_c_3 : Ref sig .tc := ⟨.hbm, 1226, rfl⟩
abbrev main_call40_v12 : Ref sig .tc := ⟨.hbm, 1227, rfl⟩
abbrev main_call40_v13 : Ref sig .tc := ⟨.hbm, 1228, rfl⟩
abbrev main_call40_v14 : Ref sig .tc := ⟨.hbm, 1229, rfl⟩
abbrev main_call40_cst : Ref sig .tc := ⟨.hbm, 1230, rfl⟩
abbrev main_call40_v15 : Ref sig .tc := ⟨.hbm, 1231, rfl⟩
abbrev main_v334 : Ref sig .tc := ⟨.hbm, 1232, rfl⟩
abbrev main_v335 : Ref sig .tc := ⟨.hbm, 1233, rfl⟩
abbrev main_v336 : Ref sig .tc := ⟨.hbm, 1234, rfl⟩
abbrev main_v337 : Ref sig .tc := ⟨.hbm, 1235, rfl⟩
abbrev main_v338 : Ref sig .tc := ⟨.hbm, 1236, rfl⟩
abbrev main_v339 : Ref sig .tc := ⟨.hbm, 1237, rfl⟩
abbrev main_v340 : Ref sig .tc := ⟨.hbm, 1238, rfl⟩
abbrev main_call41_c : Ref sig .tc := ⟨.hbm, 1239, rfl⟩
abbrev main_call41_v0 : Ref sig .tc := ⟨.hbm, 1240, rfl⟩
abbrev main_call41_v1 : Ref sig .tc := ⟨.hbm, 1241, rfl⟩
abbrev main_call41_c_0 : Ref sig .tc := ⟨.hbm, 1242, rfl⟩
abbrev main_call41_v2 : Ref sig .tc := ⟨.hbm, 1243, rfl⟩
abbrev main_call41_v3 : Ref sig .tc := ⟨.hbm, 1244, rfl⟩
abbrev main_call41_v4 : Ref sig .tc := ⟨.hbm, 1245, rfl⟩
abbrev main_call41_v5 : Ref sig .tc := ⟨.hbm, 1246, rfl⟩
abbrev main_call41_c_1 : Ref sig .tc := ⟨.hbm, 1247, rfl⟩
abbrev main_call41_c_2 : Ref sig .tc := ⟨.hbm, 1248, rfl⟩
abbrev main_call41_v6 : Ref sig .tc := ⟨.hbm, 1249, rfl⟩
abbrev main_call41_v7 : Ref sig .tc := ⟨.hbm, 1250, rfl⟩
abbrev main_call41_v8 : Ref sig .tc := ⟨.hbm, 1251, rfl⟩
abbrev main_call41_v9 : Ref sig .tc := ⟨.hbm, 1252, rfl⟩
abbrev main_call41_v10 : Ref sig .tc := ⟨.hbm, 1253, rfl⟩
abbrev main_call41_v11 : Ref sig .tc := ⟨.hbm, 1254, rfl⟩
abbrev main_call41_c_3 : Ref sig .tc := ⟨.hbm, 1255, rfl⟩
abbrev main_call41_v12 : Ref sig .tc := ⟨.hbm, 1256, rfl⟩
abbrev main_call41_v13 : Ref sig .tc := ⟨.hbm, 1257, rfl⟩
abbrev main_call41_v14 : Ref sig .tc := ⟨.hbm, 1258, rfl⟩
abbrev main_call41_cst : Ref sig .tc := ⟨.hbm, 1259, rfl⟩
abbrev main_call41_v15 : Ref sig .tc := ⟨.hbm, 1260, rfl⟩
abbrev main_v341 : Ref sig .tc := ⟨.hbm, 1261, rfl⟩
abbrev main_v342 : Ref sig .tc := ⟨.hbm, 1262, rfl⟩
abbrev main_v343 : Ref sig .tc := ⟨.hbm, 1263, rfl⟩
abbrev main_v344 : Ref sig .tc := ⟨.hbm, 1264, rfl⟩
abbrev main_v345 : Ref sig .tc := ⟨.hbm, 1265, rfl⟩
abbrev main_v346 : Ref sig .tc := ⟨.hbm, 1266, rfl⟩
abbrev main_v347 : Ref sig .tc := ⟨.hbm, 1267, rfl⟩
abbrev main_call42_c : Ref sig .tc := ⟨.hbm, 1268, rfl⟩
abbrev main_call42_v0 : Ref sig .tc := ⟨.hbm, 1269, rfl⟩
abbrev main_call42_v1 : Ref sig .tc := ⟨.hbm, 1270, rfl⟩
abbrev main_call42_c_0 : Ref sig .tc := ⟨.hbm, 1271, rfl⟩
abbrev main_call42_v2 : Ref sig .tc := ⟨.hbm, 1272, rfl⟩
abbrev main_call42_v3 : Ref sig .tc := ⟨.hbm, 1273, rfl⟩
abbrev main_call42_v4 : Ref sig .tc := ⟨.hbm, 1274, rfl⟩
abbrev main_call42_v5 : Ref sig .tc := ⟨.hbm, 1275, rfl⟩
abbrev main_call42_c_1 : Ref sig .tc := ⟨.hbm, 1276, rfl⟩
abbrev main_call42_c_2 : Ref sig .tc := ⟨.hbm, 1277, rfl⟩
abbrev main_call42_v6 : Ref sig .tc := ⟨.hbm, 1278, rfl⟩
abbrev main_call42_v7 : Ref sig .tc := ⟨.hbm, 1279, rfl⟩
abbrev main_call42_v8 : Ref sig .tc := ⟨.hbm, 1280, rfl⟩
abbrev main_call42_v9 : Ref sig .tc := ⟨.hbm, 1281, rfl⟩
abbrev main_call42_v10 : Ref sig .tc := ⟨.hbm, 1282, rfl⟩
abbrev main_call42_v11 : Ref sig .tc := ⟨.hbm, 1283, rfl⟩
abbrev main_call42_c_3 : Ref sig .tc := ⟨.hbm, 1284, rfl⟩
abbrev main_call42_v12 : Ref sig .tc := ⟨.hbm, 1285, rfl⟩
abbrev main_call42_v13 : Ref sig .tc := ⟨.hbm, 1286, rfl⟩
abbrev main_call42_v14 : Ref sig .tc := ⟨.hbm, 1287, rfl⟩
abbrev main_call42_cst : Ref sig .tc := ⟨.hbm, 1288, rfl⟩
abbrev main_call42_v15 : Ref sig .tc := ⟨.hbm, 1289, rfl⟩
abbrev main_v348 : Ref sig .tc := ⟨.hbm, 1290, rfl⟩
abbrev main_v349 : Ref sig .tc := ⟨.hbm, 1291, rfl⟩
abbrev main_v350 : Ref sig .tc := ⟨.hbm, 1292, rfl⟩
abbrev main_v351 : Ref sig .tc := ⟨.hbm, 1293, rfl⟩
abbrev main_v352 : Ref sig .tc := ⟨.hbm, 1294, rfl⟩
abbrev main_v353 : Ref sig .tc := ⟨.hbm, 1295, rfl⟩
abbrev main_v354 : Ref sig .tc := ⟨.hbm, 1296, rfl⟩
abbrev main_call43_c : Ref sig .tc := ⟨.hbm, 1297, rfl⟩
abbrev main_call43_v0 : Ref sig .tc := ⟨.hbm, 1298, rfl⟩
abbrev main_call43_v1 : Ref sig .tc := ⟨.hbm, 1299, rfl⟩
abbrev main_call43_c_0 : Ref sig .tc := ⟨.hbm, 1300, rfl⟩
abbrev main_call43_v2 : Ref sig .tc := ⟨.hbm, 1301, rfl⟩
abbrev main_call43_v3 : Ref sig .tc := ⟨.hbm, 1302, rfl⟩
abbrev main_call43_v4 : Ref sig .tc := ⟨.hbm, 1303, rfl⟩
abbrev main_call43_v5 : Ref sig .tc := ⟨.hbm, 1304, rfl⟩
abbrev main_call43_c_1 : Ref sig .tc := ⟨.hbm, 1305, rfl⟩
abbrev main_call43_c_2 : Ref sig .tc := ⟨.hbm, 1306, rfl⟩
abbrev main_call43_v6 : Ref sig .tc := ⟨.hbm, 1307, rfl⟩
abbrev main_call43_v7 : Ref sig .tc := ⟨.hbm, 1308, rfl⟩
abbrev main_call43_v8 : Ref sig .tc := ⟨.hbm, 1309, rfl⟩
abbrev main_call43_v9 : Ref sig .tc := ⟨.hbm, 1310, rfl⟩
abbrev main_call43_v10 : Ref sig .tc := ⟨.hbm, 1311, rfl⟩
abbrev main_call43_v11 : Ref sig .tc := ⟨.hbm, 1312, rfl⟩
abbrev main_call43_c_3 : Ref sig .tc := ⟨.hbm, 1313, rfl⟩
abbrev main_call43_v12 : Ref sig .tc := ⟨.hbm, 1314, rfl⟩
abbrev main_call43_v13 : Ref sig .tc := ⟨.hbm, 1315, rfl⟩
abbrev main_call43_v14 : Ref sig .tc := ⟨.hbm, 1316, rfl⟩
abbrev main_call43_cst : Ref sig .tc := ⟨.hbm, 1317, rfl⟩
abbrev main_call43_v15 : Ref sig .tc := ⟨.hbm, 1318, rfl⟩
abbrev main_v355 : Ref sig .tc := ⟨.hbm, 1319, rfl⟩
abbrev main_v356 : Ref sig .tc := ⟨.hbm, 1320, rfl⟩
abbrev main_v357 : Ref sig .tc := ⟨.hbm, 1321, rfl⟩
abbrev main_v358 : Ref sig .tc := ⟨.hbm, 1322, rfl⟩
abbrev main_v359 : Ref sig .tc := ⟨.hbm, 1323, rfl⟩
abbrev main_v360 : Ref sig .tc := ⟨.hbm, 1324, rfl⟩
abbrev main_v361 : Ref sig .tc := ⟨.hbm, 1325, rfl⟩
abbrev main_call44_c : Ref sig .tc := ⟨.hbm, 1326, rfl⟩
abbrev main_call44_v0 : Ref sig .tc := ⟨.hbm, 1327, rfl⟩
abbrev main_call44_v1 : Ref sig .tc := ⟨.hbm, 1328, rfl⟩
abbrev main_call44_c_0 : Ref sig .tc := ⟨.hbm, 1329, rfl⟩
abbrev main_call44_v2 : Ref sig .tc := ⟨.hbm, 1330, rfl⟩
abbrev main_call44_v3 : Ref sig .tc := ⟨.hbm, 1331, rfl⟩
abbrev main_call44_v4 : Ref sig .tc := ⟨.hbm, 1332, rfl⟩
abbrev main_call44_v5 : Ref sig .tc := ⟨.hbm, 1333, rfl⟩
abbrev main_call44_c_1 : Ref sig .tc := ⟨.hbm, 1334, rfl⟩
abbrev main_call44_c_2 : Ref sig .tc := ⟨.hbm, 1335, rfl⟩
abbrev main_call44_v6 : Ref sig .tc := ⟨.hbm, 1336, rfl⟩
abbrev main_call44_v7 : Ref sig .tc := ⟨.hbm, 1337, rfl⟩
abbrev main_call44_v8 : Ref sig .tc := ⟨.hbm, 1338, rfl⟩
abbrev main_call44_v9 : Ref sig .tc := ⟨.hbm, 1339, rfl⟩
abbrev main_call44_v10 : Ref sig .tc := ⟨.hbm, 1340, rfl⟩
abbrev main_call44_v11 : Ref sig .tc := ⟨.hbm, 1341, rfl⟩
abbrev main_call44_c_3 : Ref sig .tc := ⟨.hbm, 1342, rfl⟩
abbrev main_call44_v12 : Ref sig .tc := ⟨.hbm, 1343, rfl⟩
abbrev main_call44_v13 : Ref sig .tc := ⟨.hbm, 1344, rfl⟩
abbrev main_call44_v14 : Ref sig .tc := ⟨.hbm, 1345, rfl⟩
abbrev main_call44_cst : Ref sig .tc := ⟨.hbm, 1346, rfl⟩
abbrev main_call44_v15 : Ref sig .tc := ⟨.hbm, 1347, rfl⟩
abbrev main_v362 : Ref sig .tc := ⟨.hbm, 1348, rfl⟩
abbrev main_v363 : Ref sig .tc := ⟨.hbm, 1349, rfl⟩
abbrev main_v364 : Ref sig .tc := ⟨.hbm, 1350, rfl⟩
abbrev main_v365 : Ref sig .tc := ⟨.hbm, 1351, rfl⟩
abbrev main_v366 : Ref sig .tc := ⟨.hbm, 1352, rfl⟩
abbrev main_v367 : Ref sig .tc := ⟨.hbm, 1353, rfl⟩
abbrev main_v368 : Ref sig .tc := ⟨.hbm, 1354, rfl⟩
abbrev main_call45_c : Ref sig .tc := ⟨.hbm, 1355, rfl⟩
abbrev main_call45_v0 : Ref sig .tc := ⟨.hbm, 1356, rfl⟩
abbrev main_call45_v1 : Ref sig .tc := ⟨.hbm, 1357, rfl⟩
abbrev main_call45_c_0 : Ref sig .tc := ⟨.hbm, 1358, rfl⟩
abbrev main_call45_v2 : Ref sig .tc := ⟨.hbm, 1359, rfl⟩
abbrev main_call45_v3 : Ref sig .tc := ⟨.hbm, 1360, rfl⟩
abbrev main_call45_v4 : Ref sig .tc := ⟨.hbm, 1361, rfl⟩
abbrev main_call45_v5 : Ref sig .tc := ⟨.hbm, 1362, rfl⟩
abbrev main_call45_c_1 : Ref sig .tc := ⟨.hbm, 1363, rfl⟩
abbrev main_call45_c_2 : Ref sig .tc := ⟨.hbm, 1364, rfl⟩
abbrev main_call45_v6 : Ref sig .tc := ⟨.hbm, 1365, rfl⟩
abbrev main_call45_v7 : Ref sig .tc := ⟨.hbm, 1366, rfl⟩
abbrev main_call45_v8 : Ref sig .tc := ⟨.hbm, 1367, rfl⟩
abbrev main_call45_v9 : Ref sig .tc := ⟨.hbm, 1368, rfl⟩
abbrev main_call45_v10 : Ref sig .tc := ⟨.hbm, 1369, rfl⟩
abbrev main_call45_v11 : Ref sig .tc := ⟨.hbm, 1370, rfl⟩
abbrev main_call45_c_3 : Ref sig .tc := ⟨.hbm, 1371, rfl⟩
abbrev main_call45_v12 : Ref sig .tc := ⟨.hbm, 1372, rfl⟩
abbrev main_call45_v13 : Ref sig .tc := ⟨.hbm, 1373, rfl⟩
abbrev main_call45_v14 : Ref sig .tc := ⟨.hbm, 1374, rfl⟩
abbrev main_call45_cst : Ref sig .tc := ⟨.hbm, 1375, rfl⟩
abbrev main_call45_v15 : Ref sig .tc := ⟨.hbm, 1376, rfl⟩
abbrev main_v369 : Ref sig .tc := ⟨.hbm, 1377, rfl⟩
abbrev main_v370 : Ref sig .tc := ⟨.hbm, 1378, rfl⟩
abbrev main_v371 : Ref sig .tc := ⟨.hbm, 1379, rfl⟩
abbrev main_v372 : Ref sig .tc := ⟨.hbm, 1380, rfl⟩
abbrev main_v373 : Ref sig .tc := ⟨.hbm, 1381, rfl⟩
abbrev main_v374 : Ref sig .tc := ⟨.hbm, 1382, rfl⟩
abbrev main_v375 : Ref sig .tc := ⟨.hbm, 1383, rfl⟩
abbrev main_call46_c : Ref sig .tc := ⟨.hbm, 1384, rfl⟩
abbrev main_call46_v0 : Ref sig .tc := ⟨.hbm, 1385, rfl⟩
abbrev main_call46_v1 : Ref sig .tc := ⟨.hbm, 1386, rfl⟩
abbrev main_call46_c_0 : Ref sig .tc := ⟨.hbm, 1387, rfl⟩
abbrev main_call46_v2 : Ref sig .tc := ⟨.hbm, 1388, rfl⟩
abbrev main_call46_v3 : Ref sig .tc := ⟨.hbm, 1389, rfl⟩
abbrev main_call46_v4 : Ref sig .tc := ⟨.hbm, 1390, rfl⟩
abbrev main_call46_v5 : Ref sig .tc := ⟨.hbm, 1391, rfl⟩
abbrev main_call46_c_1 : Ref sig .tc := ⟨.hbm, 1392, rfl⟩
abbrev main_call46_c_2 : Ref sig .tc := ⟨.hbm, 1393, rfl⟩
abbrev main_call46_v6 : Ref sig .tc := ⟨.hbm, 1394, rfl⟩
abbrev main_call46_v7 : Ref sig .tc := ⟨.hbm, 1395, rfl⟩
abbrev main_call46_v8 : Ref sig .tc := ⟨.hbm, 1396, rfl⟩
abbrev main_call46_v9 : Ref sig .tc := ⟨.hbm, 1397, rfl⟩
abbrev main_call46_v10 : Ref sig .tc := ⟨.hbm, 1398, rfl⟩
abbrev main_call46_v11 : Ref sig .tc := ⟨.hbm, 1399, rfl⟩
abbrev main_call46_c_3 : Ref sig .tc := ⟨.hbm, 1400, rfl⟩
abbrev main_call46_v12 : Ref sig .tc := ⟨.hbm, 1401, rfl⟩
abbrev main_call46_v13 : Ref sig .tc := ⟨.hbm, 1402, rfl⟩
abbrev main_call46_v14 : Ref sig .tc := ⟨.hbm, 1403, rfl⟩
abbrev main_call46_cst : Ref sig .tc := ⟨.hbm, 1404, rfl⟩
abbrev main_call46_v15 : Ref sig .tc := ⟨.hbm, 1405, rfl⟩
abbrev main_v376 : Ref sig .tc := ⟨.hbm, 1406, rfl⟩
abbrev main_v377 : Ref sig .tc := ⟨.hbm, 1407, rfl⟩
abbrev main_v378 : Ref sig .tc := ⟨.hbm, 1408, rfl⟩
abbrev main_v379 : Ref sig .tc := ⟨.hbm, 1409, rfl⟩
abbrev main_v380 : Ref sig .tc := ⟨.hbm, 1410, rfl⟩
abbrev main_v381 : Ref sig .tc := ⟨.hbm, 1411, rfl⟩
abbrev main_v382 : Ref sig .tc := ⟨.hbm, 1412, rfl⟩
abbrev main_call47_c : Ref sig .tc := ⟨.hbm, 1413, rfl⟩
abbrev main_call47_v0 : Ref sig .tc := ⟨.hbm, 1414, rfl⟩
abbrev main_call47_v1 : Ref sig .tc := ⟨.hbm, 1415, rfl⟩
abbrev main_call47_c_0 : Ref sig .tc := ⟨.hbm, 1416, rfl⟩
abbrev main_call47_v2 : Ref sig .tc := ⟨.hbm, 1417, rfl⟩
abbrev main_call47_v3 : Ref sig .tc := ⟨.hbm, 1418, rfl⟩
abbrev main_call47_v4 : Ref sig .tc := ⟨.hbm, 1419, rfl⟩
abbrev main_call47_v5 : Ref sig .tc := ⟨.hbm, 1420, rfl⟩
abbrev main_call47_c_1 : Ref sig .tc := ⟨.hbm, 1421, rfl⟩
abbrev main_call47_c_2 : Ref sig .tc := ⟨.hbm, 1422, rfl⟩
abbrev main_call47_v6 : Ref sig .tc := ⟨.hbm, 1423, rfl⟩
abbrev main_call47_v7 : Ref sig .tc := ⟨.hbm, 1424, rfl⟩
abbrev main_call47_v8 : Ref sig .tc := ⟨.hbm, 1425, rfl⟩
abbrev main_call47_v9 : Ref sig .tc := ⟨.hbm, 1426, rfl⟩
abbrev main_call47_v10 : Ref sig .tc := ⟨.hbm, 1427, rfl⟩
abbrev main_call47_v11 : Ref sig .tc := ⟨.hbm, 1428, rfl⟩
abbrev main_call47_c_3 : Ref sig .tc := ⟨.hbm, 1429, rfl⟩
abbrev main_call47_v12 : Ref sig .tc := ⟨.hbm, 1430, rfl⟩
abbrev main_call47_v13 : Ref sig .tc := ⟨.hbm, 1431, rfl⟩
abbrev main_call47_v14 : Ref sig .tc := ⟨.hbm, 1432, rfl⟩
abbrev main_call47_cst : Ref sig .tc := ⟨.hbm, 1433, rfl⟩
abbrev main_call47_v15 : Ref sig .tc := ⟨.hbm, 1434, rfl⟩
abbrev main_v383 : Ref sig .tc := ⟨.hbm, 1435, rfl⟩
abbrev main_v384 : Ref sig .tc := ⟨.hbm, 1436, rfl⟩
abbrev main_v385 : Ref sig .tc := ⟨.hbm, 1437, rfl⟩
abbrev main_v386 : Ref sig .tc := ⟨.hbm, 1438, rfl⟩
abbrev main_v387 : Ref sig .tc := ⟨.hbm, 1439, rfl⟩
abbrev main_v388 : Ref sig .tc := ⟨.hbm, 1440, rfl⟩
abbrev main_v389 : Ref sig .tc := ⟨.hbm, 1441, rfl⟩
abbrev main_call48_c : Ref sig .tc := ⟨.hbm, 1442, rfl⟩
abbrev main_call48_v0 : Ref sig .tc := ⟨.hbm, 1443, rfl⟩
abbrev main_call48_v1 : Ref sig .tc := ⟨.hbm, 1444, rfl⟩
abbrev main_call48_c_0 : Ref sig .tc := ⟨.hbm, 1445, rfl⟩
abbrev main_call48_v2 : Ref sig .tc := ⟨.hbm, 1446, rfl⟩
abbrev main_call48_v3 : Ref sig .tc := ⟨.hbm, 1447, rfl⟩
abbrev main_call48_v4 : Ref sig .tc := ⟨.hbm, 1448, rfl⟩
abbrev main_call48_v5 : Ref sig .tc := ⟨.hbm, 1449, rfl⟩
abbrev main_call48_c_1 : Ref sig .tc := ⟨.hbm, 1450, rfl⟩
abbrev main_call48_c_2 : Ref sig .tc := ⟨.hbm, 1451, rfl⟩
abbrev main_call48_v6 : Ref sig .tc := ⟨.hbm, 1452, rfl⟩
abbrev main_call48_v7 : Ref sig .tc := ⟨.hbm, 1453, rfl⟩
abbrev main_call48_v8 : Ref sig .tc := ⟨.hbm, 1454, rfl⟩
abbrev main_call48_v9 : Ref sig .tc := ⟨.hbm, 1455, rfl⟩
abbrev main_call48_v10 : Ref sig .tc := ⟨.hbm, 1456, rfl⟩
abbrev main_call48_v11 : Ref sig .tc := ⟨.hbm, 1457, rfl⟩
abbrev main_call48_c_3 : Ref sig .tc := ⟨.hbm, 1458, rfl⟩
abbrev main_call48_v12 : Ref sig .tc := ⟨.hbm, 1459, rfl⟩
abbrev main_call48_v13 : Ref sig .tc := ⟨.hbm, 1460, rfl⟩
abbrev main_call48_v14 : Ref sig .tc := ⟨.hbm, 1461, rfl⟩
abbrev main_call48_cst : Ref sig .tc := ⟨.hbm, 1462, rfl⟩
abbrev main_call48_v15 : Ref sig .tc := ⟨.hbm, 1463, rfl⟩
abbrev main_v390 : Ref sig .tc := ⟨.hbm, 1464, rfl⟩
abbrev main_v391 : Ref sig .tc := ⟨.hbm, 1465, rfl⟩
abbrev main_v392 : Ref sig .tc := ⟨.hbm, 1466, rfl⟩
abbrev main_v393 : Ref sig .tc := ⟨.hbm, 1467, rfl⟩
abbrev main_v394 : Ref sig .tc := ⟨.hbm, 1468, rfl⟩
abbrev main_v395 : Ref sig .tc := ⟨.hbm, 1469, rfl⟩
abbrev main_v396 : Ref sig .tc := ⟨.hbm, 1470, rfl⟩
abbrev main_call49_c : Ref sig .tc := ⟨.hbm, 1471, rfl⟩
abbrev main_call49_v0 : Ref sig .tc := ⟨.hbm, 1472, rfl⟩
abbrev main_call49_v1 : Ref sig .tc := ⟨.hbm, 1473, rfl⟩
abbrev main_call49_c_0 : Ref sig .tc := ⟨.hbm, 1474, rfl⟩
abbrev main_call49_v2 : Ref sig .tc := ⟨.hbm, 1475, rfl⟩
abbrev main_call49_v3 : Ref sig .tc := ⟨.hbm, 1476, rfl⟩
abbrev main_call49_v4 : Ref sig .tc := ⟨.hbm, 1477, rfl⟩
abbrev main_call49_v5 : Ref sig .tc := ⟨.hbm, 1478, rfl⟩
abbrev main_call49_c_1 : Ref sig .tc := ⟨.hbm, 1479, rfl⟩
abbrev main_call49_c_2 : Ref sig .tc := ⟨.hbm, 1480, rfl⟩
abbrev main_call49_v6 : Ref sig .tc := ⟨.hbm, 1481, rfl⟩
abbrev main_call49_v7 : Ref sig .tc := ⟨.hbm, 1482, rfl⟩
abbrev main_call49_v8 : Ref sig .tc := ⟨.hbm, 1483, rfl⟩
abbrev main_call49_v9 : Ref sig .tc := ⟨.hbm, 1484, rfl⟩
abbrev main_call49_v10 : Ref sig .tc := ⟨.hbm, 1485, rfl⟩
abbrev main_call49_v11 : Ref sig .tc := ⟨.hbm, 1486, rfl⟩
abbrev main_call49_c_3 : Ref sig .tc := ⟨.hbm, 1487, rfl⟩
abbrev main_call49_v12 : Ref sig .tc := ⟨.hbm, 1488, rfl⟩
abbrev main_call49_v13 : Ref sig .tc := ⟨.hbm, 1489, rfl⟩
abbrev main_call49_v14 : Ref sig .tc := ⟨.hbm, 1490, rfl⟩
abbrev main_call49_cst : Ref sig .tc := ⟨.hbm, 1491, rfl⟩
abbrev main_call49_v15 : Ref sig .tc := ⟨.hbm, 1492, rfl⟩
abbrev main_v397 : Ref sig .tc := ⟨.hbm, 1493, rfl⟩
abbrev main_v398 : Ref sig .tc := ⟨.hbm, 1494, rfl⟩
abbrev main_v399 : Ref sig .tc := ⟨.hbm, 1495, rfl⟩
abbrev main_v400 : Ref sig .tc := ⟨.hbm, 1496, rfl⟩
abbrev main_v401 : Ref sig .tc := ⟨.hbm, 1497, rfl⟩
abbrev main_v402 : Ref sig .tc := ⟨.hbm, 1498, rfl⟩
abbrev main_v403 : Ref sig .tc := ⟨.hbm, 1499, rfl⟩
abbrev main_call50_c : Ref sig .tc := ⟨.hbm, 1500, rfl⟩
abbrev main_call50_v0 : Ref sig .tc := ⟨.hbm, 1501, rfl⟩
abbrev main_call50_v1 : Ref sig .tc := ⟨.hbm, 1502, rfl⟩
abbrev main_call50_c_0 : Ref sig .tc := ⟨.hbm, 1503, rfl⟩
abbrev main_call50_v2 : Ref sig .tc := ⟨.hbm, 1504, rfl⟩
abbrev main_call50_v3 : Ref sig .tc := ⟨.hbm, 1505, rfl⟩
abbrev main_call50_v4 : Ref sig .tc := ⟨.hbm, 1506, rfl⟩
abbrev main_call50_v5 : Ref sig .tc := ⟨.hbm, 1507, rfl⟩
abbrev main_call50_c_1 : Ref sig .tc := ⟨.hbm, 1508, rfl⟩
abbrev main_call50_c_2 : Ref sig .tc := ⟨.hbm, 1509, rfl⟩
abbrev main_call50_v6 : Ref sig .tc := ⟨.hbm, 1510, rfl⟩
abbrev main_call50_v7 : Ref sig .tc := ⟨.hbm, 1511, rfl⟩
abbrev main_call50_v8 : Ref sig .tc := ⟨.hbm, 1512, rfl⟩
abbrev main_call50_v9 : Ref sig .tc := ⟨.hbm, 1513, rfl⟩
abbrev main_call50_v10 : Ref sig .tc := ⟨.hbm, 1514, rfl⟩
abbrev main_call50_v11 : Ref sig .tc := ⟨.hbm, 1515, rfl⟩
abbrev main_call50_c_3 : Ref sig .tc := ⟨.hbm, 1516, rfl⟩
abbrev main_call50_v12 : Ref sig .tc := ⟨.hbm, 1517, rfl⟩
abbrev main_call50_v13 : Ref sig .tc := ⟨.hbm, 1518, rfl⟩
abbrev main_call50_v14 : Ref sig .tc := ⟨.hbm, 1519, rfl⟩
abbrev main_call50_cst : Ref sig .tc := ⟨.hbm, 1520, rfl⟩
abbrev main_call50_v15 : Ref sig .tc := ⟨.hbm, 1521, rfl⟩
abbrev main_v404 : Ref sig .tc := ⟨.hbm, 1522, rfl⟩
abbrev main_v405 : Ref sig .tc := ⟨.hbm, 1523, rfl⟩
abbrev main_v406 : Ref sig .tc := ⟨.hbm, 1524, rfl⟩
abbrev main_v407 : Ref sig .tc := ⟨.hbm, 1525, rfl⟩
abbrev main_v408 : Ref sig .tc := ⟨.hbm, 1526, rfl⟩
abbrev main_v409 : Ref sig .tc := ⟨.hbm, 1527, rfl⟩
abbrev main_v410 : Ref sig .tc := ⟨.hbm, 1528, rfl⟩
abbrev main_call51_c : Ref sig .tc := ⟨.hbm, 1529, rfl⟩
abbrev main_call51_v0 : Ref sig .tc := ⟨.hbm, 1530, rfl⟩
abbrev main_call51_v1 : Ref sig .tc := ⟨.hbm, 1531, rfl⟩
abbrev main_call51_c_0 : Ref sig .tc := ⟨.hbm, 1532, rfl⟩
abbrev main_call51_v2 : Ref sig .tc := ⟨.hbm, 1533, rfl⟩
abbrev main_call51_v3 : Ref sig .tc := ⟨.hbm, 1534, rfl⟩
abbrev main_call51_v4 : Ref sig .tc := ⟨.hbm, 1535, rfl⟩
abbrev main_call51_v5 : Ref sig .tc := ⟨.hbm, 1536, rfl⟩
abbrev main_call51_c_1 : Ref sig .tc := ⟨.hbm, 1537, rfl⟩
abbrev main_call51_c_2 : Ref sig .tc := ⟨.hbm, 1538, rfl⟩
abbrev main_call51_v6 : Ref sig .tc := ⟨.hbm, 1539, rfl⟩
abbrev main_call51_v7 : Ref sig .tc := ⟨.hbm, 1540, rfl⟩
abbrev main_call51_v8 : Ref sig .tc := ⟨.hbm, 1541, rfl⟩
abbrev main_call51_v9 : Ref sig .tc := ⟨.hbm, 1542, rfl⟩
abbrev main_call51_v10 : Ref sig .tc := ⟨.hbm, 1543, rfl⟩
abbrev main_call51_v11 : Ref sig .tc := ⟨.hbm, 1544, rfl⟩
abbrev main_call51_c_3 : Ref sig .tc := ⟨.hbm, 1545, rfl⟩
abbrev main_call51_v12 : Ref sig .tc := ⟨.hbm, 1546, rfl⟩
abbrev main_call51_v13 : Ref sig .tc := ⟨.hbm, 1547, rfl⟩
abbrev main_call51_v14 : Ref sig .tc := ⟨.hbm, 1548, rfl⟩
abbrev main_call51_cst : Ref sig .tc := ⟨.hbm, 1549, rfl⟩
abbrev main_call51_v15 : Ref sig .tc := ⟨.hbm, 1550, rfl⟩
abbrev main_v411 : Ref sig .tc := ⟨.hbm, 1551, rfl⟩
abbrev main_v412 : Ref sig .tc := ⟨.hbm, 1552, rfl⟩
abbrev main_v413 : Ref sig .tc := ⟨.hbm, 1553, rfl⟩
abbrev main_v414 : Ref sig .tc := ⟨.hbm, 1554, rfl⟩
abbrev main_v415 : Ref sig .tc := ⟨.hbm, 1555, rfl⟩
abbrev main_v416 : Ref sig .tc := ⟨.hbm, 1556, rfl⟩
abbrev main_v417 : Ref sig .tc := ⟨.hbm, 1557, rfl⟩
abbrev main_call52_c : Ref sig .tc := ⟨.hbm, 1558, rfl⟩
abbrev main_call52_v0 : Ref sig .tc := ⟨.hbm, 1559, rfl⟩
abbrev main_call52_v1 : Ref sig .tc := ⟨.hbm, 1560, rfl⟩
abbrev main_call52_c_0 : Ref sig .tc := ⟨.hbm, 1561, rfl⟩
abbrev main_call52_v2 : Ref sig .tc := ⟨.hbm, 1562, rfl⟩
abbrev main_call52_v3 : Ref sig .tc := ⟨.hbm, 1563, rfl⟩
abbrev main_call52_v4 : Ref sig .tc := ⟨.hbm, 1564, rfl⟩
abbrev main_call52_v5 : Ref sig .tc := ⟨.hbm, 1565, rfl⟩
abbrev main_call52_c_1 : Ref sig .tc := ⟨.hbm, 1566, rfl⟩
abbrev main_call52_c_2 : Ref sig .tc := ⟨.hbm, 1567, rfl⟩
abbrev main_call52_v6 : Ref sig .tc := ⟨.hbm, 1568, rfl⟩
abbrev main_call52_v7 : Ref sig .tc := ⟨.hbm, 1569, rfl⟩
abbrev main_call52_v8 : Ref sig .tc := ⟨.hbm, 1570, rfl⟩
abbrev main_call52_v9 : Ref sig .tc := ⟨.hbm, 1571, rfl⟩
abbrev main_call52_v10 : Ref sig .tc := ⟨.hbm, 1572, rfl⟩
abbrev main_call52_v11 : Ref sig .tc := ⟨.hbm, 1573, rfl⟩
abbrev main_call52_c_3 : Ref sig .tc := ⟨.hbm, 1574, rfl⟩
abbrev main_call52_v12 : Ref sig .tc := ⟨.hbm, 1575, rfl⟩
abbrev main_call52_v13 : Ref sig .tc := ⟨.hbm, 1576, rfl⟩
abbrev main_call52_v14 : Ref sig .tc := ⟨.hbm, 1577, rfl⟩
abbrev main_call52_cst : Ref sig .tc := ⟨.hbm, 1578, rfl⟩
abbrev main_call52_v15 : Ref sig .tc := ⟨.hbm, 1579, rfl⟩
abbrev main_v418 : Ref sig .tc := ⟨.hbm, 1580, rfl⟩
abbrev main_v419 : Ref sig .tc := ⟨.hbm, 1581, rfl⟩
abbrev main_v420 : Ref sig .tc := ⟨.hbm, 1582, rfl⟩
abbrev main_v421 : Ref sig .tc := ⟨.hbm, 1583, rfl⟩
abbrev main_v422 : Ref sig .tc := ⟨.hbm, 1584, rfl⟩
abbrev main_v423 : Ref sig .tc := ⟨.hbm, 1585, rfl⟩
abbrev main_v424 : Ref sig .tc := ⟨.hbm, 1586, rfl⟩
abbrev main_call53_c : Ref sig .tc := ⟨.hbm, 1587, rfl⟩
abbrev main_call53_v0 : Ref sig .tc := ⟨.hbm, 1588, rfl⟩
abbrev main_call53_v1 : Ref sig .tc := ⟨.hbm, 1589, rfl⟩
abbrev main_call53_c_0 : Ref sig .tc := ⟨.hbm, 1590, rfl⟩
abbrev main_call53_v2 : Ref sig .tc := ⟨.hbm, 1591, rfl⟩
abbrev main_call53_v3 : Ref sig .tc := ⟨.hbm, 1592, rfl⟩
abbrev main_call53_v4 : Ref sig .tc := ⟨.hbm, 1593, rfl⟩
abbrev main_call53_v5 : Ref sig .tc := ⟨.hbm, 1594, rfl⟩
abbrev main_call53_c_1 : Ref sig .tc := ⟨.hbm, 1595, rfl⟩
abbrev main_call53_c_2 : Ref sig .tc := ⟨.hbm, 1596, rfl⟩
abbrev main_call53_v6 : Ref sig .tc := ⟨.hbm, 1597, rfl⟩
abbrev main_call53_v7 : Ref sig .tc := ⟨.hbm, 1598, rfl⟩
abbrev main_call53_v8 : Ref sig .tc := ⟨.hbm, 1599, rfl⟩
abbrev main_call53_v9 : Ref sig .tc := ⟨.hbm, 1600, rfl⟩
abbrev main_call53_v10 : Ref sig .tc := ⟨.hbm, 1601, rfl⟩
abbrev main_call53_v11 : Ref sig .tc := ⟨.hbm, 1602, rfl⟩
abbrev main_call53_c_3 : Ref sig .tc := ⟨.hbm, 1603, rfl⟩
abbrev main_call53_v12 : Ref sig .tc := ⟨.hbm, 1604, rfl⟩
abbrev main_call53_v13 : Ref sig .tc := ⟨.hbm, 1605, rfl⟩
abbrev main_call53_v14 : Ref sig .tc := ⟨.hbm, 1606, rfl⟩
abbrev main_call53_cst : Ref sig .tc := ⟨.hbm, 1607, rfl⟩
abbrev main_call53_v15 : Ref sig .tc := ⟨.hbm, 1608, rfl⟩
abbrev main_v425 : Ref sig .tc := ⟨.hbm, 1609, rfl⟩
abbrev main_v426 : Ref sig .tc := ⟨.hbm, 1610, rfl⟩
abbrev main_v427 : Ref sig .tc := ⟨.hbm, 1611, rfl⟩
abbrev main_v428 : Ref sig .tc := ⟨.hbm, 1612, rfl⟩
abbrev main_v429 : Ref sig .tc := ⟨.hbm, 1613, rfl⟩
abbrev main_v430 : Ref sig .tc := ⟨.hbm, 1614, rfl⟩
abbrev main_v431 : Ref sig .tc := ⟨.hbm, 1615, rfl⟩
abbrev main_call54_c : Ref sig .tc := ⟨.hbm, 1616, rfl⟩
abbrev main_call54_v0 : Ref sig .tc := ⟨.hbm, 1617, rfl⟩
abbrev main_call54_v1 : Ref sig .tc := ⟨.hbm, 1618, rfl⟩
abbrev main_call54_c_0 : Ref sig .tc := ⟨.hbm, 1619, rfl⟩
abbrev main_call54_v2 : Ref sig .tc := ⟨.hbm, 1620, rfl⟩
abbrev main_call54_v3 : Ref sig .tc := ⟨.hbm, 1621, rfl⟩
abbrev main_call54_v4 : Ref sig .tc := ⟨.hbm, 1622, rfl⟩
abbrev main_call54_v5 : Ref sig .tc := ⟨.hbm, 1623, rfl⟩
abbrev main_call54_c_1 : Ref sig .tc := ⟨.hbm, 1624, rfl⟩
abbrev main_call54_c_2 : Ref sig .tc := ⟨.hbm, 1625, rfl⟩
abbrev main_call54_v6 : Ref sig .tc := ⟨.hbm, 1626, rfl⟩
abbrev main_call54_v7 : Ref sig .tc := ⟨.hbm, 1627, rfl⟩
abbrev main_call54_v8 : Ref sig .tc := ⟨.hbm, 1628, rfl⟩
abbrev main_call54_v9 : Ref sig .tc := ⟨.hbm, 1629, rfl⟩
abbrev main_call54_v10 : Ref sig .tc := ⟨.hbm, 1630, rfl⟩
abbrev main_call54_v11 : Ref sig .tc := ⟨.hbm, 1631, rfl⟩
abbrev main_call54_c_3 : Ref sig .tc := ⟨.hbm, 1632, rfl⟩
abbrev main_call54_v12 : Ref sig .tc := ⟨.hbm, 1633, rfl⟩
abbrev main_call54_v13 : Ref sig .tc := ⟨.hbm, 1634, rfl⟩
abbrev main_call54_v14 : Ref sig .tc := ⟨.hbm, 1635, rfl⟩
abbrev main_call54_cst : Ref sig .tc := ⟨.hbm, 1636, rfl⟩
abbrev main_call54_v15 : Ref sig .tc := ⟨.hbm, 1637, rfl⟩
abbrev main_v432 : Ref sig .tc := ⟨.hbm, 1638, rfl⟩
abbrev main_v433 : Ref sig .tc := ⟨.hbm, 1639, rfl⟩
abbrev main_v434 : Ref sig .tc := ⟨.hbm, 1640, rfl⟩
abbrev main_v435 : Ref sig .tc := ⟨.hbm, 1641, rfl⟩
abbrev main_v436 : Ref sig .tc := ⟨.hbm, 1642, rfl⟩
abbrev main_v437 : Ref sig .tc := ⟨.hbm, 1643, rfl⟩
abbrev main_v438 : Ref sig .tc := ⟨.hbm, 1644, rfl⟩
abbrev main_call55_c : Ref sig .tc := ⟨.hbm, 1645, rfl⟩
abbrev main_call55_v0 : Ref sig .tc := ⟨.hbm, 1646, rfl⟩
abbrev main_call55_v1 : Ref sig .tc := ⟨.hbm, 1647, rfl⟩
abbrev main_call55_c_0 : Ref sig .tc := ⟨.hbm, 1648, rfl⟩
abbrev main_call55_v2 : Ref sig .tc := ⟨.hbm, 1649, rfl⟩
abbrev main_call55_v3 : Ref sig .tc := ⟨.hbm, 1650, rfl⟩
abbrev main_call55_v4 : Ref sig .tc := ⟨.hbm, 1651, rfl⟩
abbrev main_call55_v5 : Ref sig .tc := ⟨.hbm, 1652, rfl⟩
abbrev main_call55_c_1 : Ref sig .tc := ⟨.hbm, 1653, rfl⟩
abbrev main_call55_c_2 : Ref sig .tc := ⟨.hbm, 1654, rfl⟩
abbrev main_call55_v6 : Ref sig .tc := ⟨.hbm, 1655, rfl⟩
abbrev main_call55_v7 : Ref sig .tc := ⟨.hbm, 1656, rfl⟩
abbrev main_call55_v8 : Ref sig .tc := ⟨.hbm, 1657, rfl⟩
abbrev main_call55_v9 : Ref sig .tc := ⟨.hbm, 1658, rfl⟩
abbrev main_call55_v10 : Ref sig .tc := ⟨.hbm, 1659, rfl⟩
abbrev main_call55_v11 : Ref sig .tc := ⟨.hbm, 1660, rfl⟩
abbrev main_call55_c_3 : Ref sig .tc := ⟨.hbm, 1661, rfl⟩
abbrev main_call55_v12 : Ref sig .tc := ⟨.hbm, 1662, rfl⟩
abbrev main_call55_v13 : Ref sig .tc := ⟨.hbm, 1663, rfl⟩
abbrev main_call55_v14 : Ref sig .tc := ⟨.hbm, 1664, rfl⟩
abbrev main_call55_cst : Ref sig .tc := ⟨.hbm, 1665, rfl⟩
abbrev main_call55_v15 : Ref sig .tc := ⟨.hbm, 1666, rfl⟩
abbrev main_v439 : Ref sig .tc := ⟨.hbm, 1667, rfl⟩
abbrev main_v440 : Ref sig .tc := ⟨.hbm, 1668, rfl⟩
abbrev main_v441 : Ref sig .tc := ⟨.hbm, 1669, rfl⟩
abbrev main_v442 : Ref sig .tc := ⟨.hbm, 1670, rfl⟩
abbrev main_v443 : Ref sig .tc := ⟨.hbm, 1671, rfl⟩
abbrev main_v444 : Ref sig .tc := ⟨.hbm, 1672, rfl⟩
abbrev main_v445 : Ref sig .tc := ⟨.hbm, 1673, rfl⟩
abbrev main_v446 : Ref sig .tc := ⟨.hbm, 1674, rfl⟩

abbrev nD : Nat := 1
abbrev τ : Topo := Topo.v7x

variable {F : FTy → Type} [FloatOps F]
-- ==== Proof.KernelFrame.lean ====
/-
  The frame of the kernel, at any float instance: @main terminates without a fault, its arguments end unchanged and
  every semaphore counter ends at zero. The voxel window and both result windows overhang their arrays at the last grid
  point, so what a fetch leaves past the array's end has no name; what the body then computes from it is not described
  here either: both result windows are forgotten.
-/
module

public import proofs.«01_k».proof.Proof.Gen.Kernel.Skeleton
public import proofs.«01_k».proof.Proof.Gen.Kernel.Frame

@[expose] public section

set_option maxRecDepth 16384

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body on whole buffers: the six inputs come back as they were, the two results hold something. -/
theorem body_runs (c : Dev nD) (E : Set ℕ) (i : grid0.Coords)
    (a1 : Memref sig .tc .vmem S64x2048 .f32) (h1 : a1.IsWhole) (a2 : Memref sig .tc .vmem S8x64 .f32) (h2 : a2.IsWhole)
    (a3 : Memref sig .tc .vmem S8x128 .f32) (h3 : a3.IsWhole) (a4 : Memref sig .tc .vmem S64x128 .f32) (h4 : a4.IsWhole)
    (a5 : Memref sig .tc .vmem S64x64 .bf16) (h5 : a5.IsWhole) (a6 : Memref sig .tc .vmem S16384x64 .bf16) (h6 : a6.IsWhole)
    (a7 : Memref sig .tc .vmem S8x2048 .f32) (h7 : a7.IsWhole) (a8 : Memref sig .tc .vmem S64x16384 .f32) (h8 : a8.IsWhole)
    (x1 : Vec F S64x2048 .f32) (x2 : Vec F S8x64 .f32) (x3 : Vec F S8x128 .f32) (x4 : Vec F S64x128 .f32)
    (x5 : Vec F S64x64 .bf16) (x6 : Vec F S16384x64 .bf16) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ (∃ d, owns (c : Thread nD τ) a7 fullShare d) ∗ (∃ d, owns (c : Thread nD τ) a8 fullShare d)
        ∗ (iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ (∃ d, owns (c : Thread nD τ) a7 fullShare d) ∗ (∃ d, owns (c : Thread nD τ) a8 fullShare d)) -∗ K ⟨⟩))
      ⊢ wp frame (wpE (defs₀ (F := F)) Variants.none c none) E
          (cc0__block_kernel i a1 h1 a2 h2 a3 h3 a4 h4 a5 h5 a6 h6 a7 h7 a8 h8) K := by
  simp only [cc0__block_kernel_eq_skeleton]; unfold cc0__block_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, Hk⟩
  subst e1 e2 e3 e4 e5 e6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; iexists _; isplitr
    swap; · iexact H7
    ipureintro; rfl
  iexists _; iexists _; isplitr
  swap; · iexact H8
  ipureintro; rfl

/-- The proof data: the arrays as the region finds them; after the body each input's buffer still at its block (the voxel
    window's filled out past the array's end with a word nothing reads), the results' at whatever, since both are forgotten. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Scalar.ofBits .f32 0#32
    | ⟨7, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]

/-- The windows whose contents are not described: the two results'. -/
def forgotten : Fin cfg0.W → Bool
  | ⟨6, _⟩ => true
  | ⟨7, _⟩ => true
  | _ => false

theorem after_0 (c : Dev nD) (t : Fin cfg0.N) : (dats m 0 c).after 0 t
    = win0_0.fill (grid0.coords t) (fun _ => Scalar.ofBits .f32 0#32) (iblk m c 0 t) := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

/-- The voxel window is fetched at every point: its buffer holds the block, and past the array's end anything. -/
theorem before_0 (c : Dev nD) (t : Fin cfg0.N) (d) :
    (dats m 0 c).before 0 t d = win0_0.fill (grid0.coords t) d (iblk m c 0 t) := by
  unfold Dat.before; rw [if_pos (fetch0_0 t)]; rfl

/-- What the pipeline calls at a grid point is the body on that point's buffers. -/
theorem body_row (t : Fin cfg0.N) : defs₀ (F := F) .tc cfg0.body (cfg0.bodyArgs t (cfg0.slots t)) = bodyAt0 t := by
  unfold defs₀; rw [Defs.onTc_tc]

/-- The body obligation: from the buffers as the pipeline hands them over to the buffers as it takes them back. -/
theorem obligation (c : Dev nD) :
    BodyObligationLoose (dats (F := F) m 0 c) (defs₀ (F := F)) Variants.none () Set.univ forgotten := fun t => by
  rw [bigSep_W0, bigSep_W0, body_row]
  simp only [show forgotten 0 = false from rfl, show forgotten 1 = false from rfl, show forgotten 2 = false from rfl,
    show forgotten 3 = false from rfl, show forgotten 4 = false from rfl, show forgotten 5 = false from rfl,
    show forgotten 6 = true from rfl, show forgotten 7 = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before_0 m c t d0, before0_1_of m (dats m 0 c) (A_eq m c 1) (after_1 m c) t d1,
    before0_2_of m (dats m 0 c) (A_eq m c 2) (after_2 m c) t d2, before0_3_of m (dats m 0 c) (A_eq m c 3) (after_3 m c) t d3,
    before0_4_of m (dats m 0 c) (A_eq m c 4) (after_4 m c) t d4, before0_5_of m (dats m 0 c) (A_eq m c 5) (after_5 m c) t d5]
  iapply (body_runs c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5)) (win0_6.stage (cfg0.slots t 6)) (hstage0_6 ((cfg0.slots t 6).cast nbuf0_6))
    (win0_7.stage (cfg0.slots t 7)) (hstage0_7 ((cfg0.slots t 7).cast nbuf0_7))
    (win0_0.fill (grid0.coords t) d0 (iblk m c 0 t)) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  isplitl [H7]; · iexists d7; iexact H7
  iintro ⟨H0, H1, H2, H3, H4, H5, H6, H7⟩
  isplitl [HΦ]; · iexact HΦ
  isplitl [Ho]; · iexact Ho
  isplitl [H0]
  · iexists d0
    rw [after_0, show (win0 0).cut (grid0.coords t) (win0_0.fill (grid0.coords t) (fun _ => Scalar.ofBits .f32 0#32) (iblk m c 0 t))
      = iblk m c 0 t from win0_0.cut_fill _ _ _]
    iexact H0
  isplitl [H1]; · rw [after_1]; iexact H1
  isplitl [H2]; · rw [after_2]; iexact H2
  isplitl [H3]; · rw [after_3]; iexact H3
  isplitl [H4]; · rw [after_4]; iexact H4
  isplitl [H5]; · rw [after_5]; iexact H5
  isplitl [H6]; · iexact H6
  iexact H7

/-- The buffers @main's last lines write: the kernel's two results. -/
def tail : Finset (Ref sig .tc) := {main_v16, main_v17}

/-- The last lines write the two results only. -/
theorem tail_writes : ∀ ops ∈ ([hostOps1] : List (List (HloOp τ sig (Elt F)))), ∀ op ∈ ops, ∀ b : Ref sig .tc,
    Proc.devRef .tc b ∈ op.writes → b ∈ tail := by
  intro ops hops op hop b hb
  simp only [List.mem_cons, List.mem_nil_iff, or_false] at hops
  subst hops
  simp only [hostOps1, List.mem_cons, List.mem_nil_iff, or_false] at hop
  rcases hop with rfl | rfl
  all_goals
    simp only [StableHlo.unary_writes, Finset.mem_singleton] at hb
    rw [Proc.devRef_injective _ hb]
    decide

set_option backward.isDefEq.respectTransparency.types false in
set_option maxHeartbeats 800000 in
/-- The whole run: every buffer outside the pipeline and outside the two results holds what it held when the region was
    entered, and the counters end at zero. -/
theorem run_rest : θ_run defs (onTc (τ := τ) (main (F := F))) (s₀ m ρ) (fun r =>
    Pipeline.RDat.FramePostR (cfgs 0) (fun c => (dats m 0 c).toRForget forgotten) tail (fun c b => V0 m c (Proc.devRef .tc b)) r
      ∧ r.2.sem = fun _ => 0) :=
  Pipeline.θ_run_frame_around_T_forget (Q' := _) cfgs (dats m) (0 : Fin 1) launch0 defs₀ Variants.none forgotten tail m ρ main
    (hbody := fun c => obligation m c) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- An argument is neither an array of the pipeline nor a result, so it ends as the region found it. -/
theorem rest {r : PUnit × MemSt nD τ sig (Elt F)}
    (h : Pipeline.RDat.FramePostR (cfgs 0) (fun c => (dats m 0 c).toRForget forgotten) tail (fun c b => V0 m c (Proc.devRef .tc b)) r)
    (c : Dev nD) (b : Ref sig .tc) (hb : b ∈ Pipeline.restRefs sig (cfgs 0).spec) (ht : b ∉ tail) :
    r.2.mem ((c.tc : Thread nD τ).loc b) = V m c b :=
  (h c).2 b (Finset.mem_sdiff.2 ⟨hb, ht⟩)

/-- The frame: @main terminates, its arguments end unchanged, the counters at zero. -/
theorem frame_kernel : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => ⟨
    (rest m h.1 c main_arg0 (Pipeline.mem_restRefs_of _ (by decide) (by decide)) (by decide)).trans (V_main_arg0 m c),
    (rest m h.1 c main_arg1 (Pipeline.mem_restRefs_of _ (by decide) (by decide)) (by decide)).trans (V_main_arg1 m c),
    (rest m h.1 c main_arg2 (Pipeline.mem_restRefs_of _ (by decide) (by decide)) (by decide)).trans (V_main_arg2 m c),
    (rest m h.1 c main_arg3 (Pipeline.mem_restRefs_of _ (by decide) (by decide)) (by decide)).trans (V_main_arg3 m c),
    (rest m h.1 c main_arg4 (Pipeline.mem_restRefs_of _ (by decide) (by decide)) (by decide)).trans (V_main_arg4 m c),
    (rest m h.1 c main_arg5 (Pipeline.mem_restRefs_of _ (by decide) (by decide)) (by decide)).trans (V_main_arg5 m c),
    (rest m h.1 c main_arg6 (Pipeline.mem_restRefs_of _ (by decide) (by decide)) (by decide)).trans (V_main_arg6 m c),
    (rest m h.1 c main_arg7 (Pipeline.mem_restRefs_of _ (by decide) (by decide)) (by decide)).trans (V_main_arg7 m c),
    (rest m h.1 c main_arg8 (Pipeline.mem_restRefs_of _ (by decide) (by decide)) (by decide)).trans (V_main_arg8 m c),
    (rest m h.1 c main_arg9 (Pipeline.mem_restRefs_of _ (by decide) (by decide)) (by decide)).trans (V_main_arg9 m c),
    (rest m h.1 c main_arg10 (Pipeline.mem_restRefs_of _ (by decide) (by decide)) (by decide)).trans (V_main_arg10 m c)⟩, h.2⟩) (run_rest m ρ)

end Cert.KernelProof
-- ==== Proof.Block.lean ====
/-
  What one call of the kernel's body computes, on exact values, from the buffers it loads: the two results' blocks,
  entry by entry.
-/
module

public import proofs.«01_k».proof.Proof.Gen.KernelIdeal.Skeleton
public import Idealize.ShloMosaic.Lib.Pointwise

@[expose] public section

set_option maxRecDepth 16384

noncomputable section

namespace Cert.KernelProof

open Cert.KernelIdeal Cert.KernelIdeal.Gen
open Idealize.ShloMosaic
open scoped BigOperators

/-- The occupancy mask of a subdivision logit: one where it is positive, zero elsewhere. -/
def gate (s : EReal) : EReal := if 0 < s then 1 else 0

/-- A comparison's bit, widened to a word and read as a number, is the mask. -/
theorem gate_of_word (s : EReal) :
    (FloatOps.sitofp FTy.f32 (BitVec.setWidth 32 (BitVec.ofBool (decide (0 < s)))) : Ideal FTy.f32) = gate s := by
  unfold gate
  by_cases h : 0 < s
  · rw [if_pos h, decide_eq_true h]
    show (((BitVec.setWidth 32 (BitVec.ofBool true)).toInt : ℝ) : EReal) = 1
    rw [show (BitVec.setWidth 32 (BitVec.ofBool true)).toInt = 1 from by decide]
    norm_num
  · rw [if_neg h, decide_eq_false h]
    show (((BitVec.setWidth 32 (BitVec.ofBool false)).toInt : ℝ) : EReal) = 0
    rw [show (BitVec.setWidth 32 (BitVec.ofBool false)).toInt = 0 from by decide]
    norm_num

/-- The second result's block, an entry: one voxel's row against one subdivision channel, plus the channel's bias. -/
theorem block_sub (x : Vec Ideal S64x2048 .f32) (w : Vec Ideal S8x64 .f32) (b : Vec Ideal S8x1 .f32) (s : Fin 8) (r : Fin 2048) :
    k0_pay2 x w b (ix2 s r) = (∑ c : Fin 64, w (ix2 s c) * x (ix2 c r)) + b (ix2 s 0) := by
  pointwise [k0_pay2, k0_pay1]

/-- The channel of the voxel's row that lands at output channel `q` of child `k % 8`. -/
def source (q : Fin 64) (k : ℕ) : Fin 64 := ⟨8 * (k % 8) + q.val / 8, by omega⟩

/-- The first result's block, an entry. The two tables pick, out of the 64 channels, those of the child `k % 8` and out of
    its eight the one that output channel `q` repeats, so one term of the product is left: that channel of voxel `k / 8`,
    masked by the child's logit, plus the output channel's bias. -/
theorem block_out (x : Vec Ideal S64x2048 .f32) (w : Vec Ideal S8x64 .f32) (b : Vec Ideal S8x1 .f32)
    (B : Vec Ideal S16384x64 .bf16) (L : Vec Ideal S64x64 .bf16) (b2 : Vec Ideal S64x1 .f32)
    (hL : ∀ q p : Fin 64, L (ix2 q p) = if p.val % 8 = q.val / 8 then (1 : EReal) else 0)
    (hB : ∀ (k : Fin 16384) (p : Fin 64), B (ix2 k p) = if k.val % 8 = p.val / 8 then (1 : EReal) else 0)
    (q : Fin 64) (k : Fin 16384) :
    k0_pay3 x w b B L b2 (ix2 q k)
      = x (ix2 (source q k) ⟨k.val / 8, by omega⟩) * gate (k0_pay2 x w b (ix2 ⟨k.val % 8, by omega⟩ ⟨k.val / 8, by omega⟩))
        + b2 (ix2 q 0) := by
  unfold k0_pay3
  generalize k0_pay2 x w b = S
  pointwise [k0_pay1]
  congr 1
  rw [Finset.sum_eq_single (source q k)]
  · rw [gate_of_word, hL, hB, if_pos (by simp only [source]; omega), if_pos (by simp only [source]; omega), one_mul, mul_one]
    congr 3
    simp only [source]
    congr 1
    apply Fin.ext
    show (8 * (k.val % 8) + q.val / 8) / 8 = k.val % 8
    omega
  · intro p _ hp
    rw [hL, hB]
    by_cases h1 : p.val % 8 = q.val / 8
    · rw [if_neg (fun h2 : k.val % 8 = p.val / 8 => hp (Fin.ext (by simp only [source]; omega))), mul_zero, mul_zero]
    · rw [if_neg h1, zero_mul]
  · intro h; exact absurd (Finset.mem_univ _) h

end Cert.KernelProof
-- ==== Proof.IdealBody.lean ====
/-
  The body of the kernel run on exact values: what it leaves in its two result buffers.
-/
module

public import proofs.«01_k».proof.Proof.Block
public import proofs.«01_k».proof.Proof.Gen.KernelIdeal.Frame
public import Idealize.ShloMosaic.Lib.Pipeline.ValueKit

@[expose] public section

set_option maxRecDepth 16384

noncomputable section

namespace Cert.KernelProof.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open scoped BigOperators
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The first column of an 8×128 buffer. -/
def column8 (b : Vec Ideal S8x128 .f32) : Vec Ideal S8x1 .f32 := fun i => b (ix2 (i 0) 0)

/-- The first column of a 64×128 buffer. -/
def column64 (b : Vec Ideal S64x128 .f32) : Vec Ideal S64x1 .f32 := fun i => b (ix2 (i 0) 0)

theorem zeros : (![0, 0] : Fin 2 → ℕ) = fun _ => 0 := funext fun a => by fin_cases a <;> rfl

theorem load_column8 (b : Vec Ideal S8x128 .f32) :
    View.ld b (Rect.unit (s := S8x128) ![0, 0] S8x1.size inb_S8x128_S8x1_0_0) = column8 b := by
  funext x
  refine View.ld_unit_apply_of b ![0, 0] S8x1.size inb_S8x128_S8x1_0_0 x (ix2 (x 0) 0) (fun a => ?_)
  have h1 := (x 1).isLt
  fin_cases a
  · show (x 0 : ℕ) = 0 + (x 0 : ℕ); omega
  · show (0 : ℕ) = 0 + (x 1 : ℕ)
    have : (x 1 : ℕ) < 1 := h1
    omega

theorem load_column64 (b : Vec Ideal S64x128 .f32) :
    View.ld b (Rect.unit (s := S64x128) ![0, 0] S64x1.size inb_S64x128_S64x1_0_0) = column64 b := by
  funext x
  refine View.ld_unit_apply_of b ![0, 0] S64x1.size inb_S64x128_S64x1_0_0 x (ix2 (x 0) 0) (fun a => ?_)
  have h1 := (x 1).isLt
  fin_cases a
  · show (x 0 : ℕ) = 0 + (x 0 : ℕ); omega
  · show (0 : ℕ) = 0 + (x 1 : ℕ)
    have : (x 1 : ℕ) < 1 := h1
    omega

/-- The body on whole buffers: the six inputs come back as they were, the two results' buffers hold the body's values. -/
theorem body_runs (c : Dev nD) (E : Set ℕ) (i : grid0.Coords)
    (a1 : Memref sig .tc .vmem S64x2048 .f32) (h1 : a1.IsWhole) (a2 : Memref sig .tc .vmem S8x64 .f32) (h2 : a2.IsWhole)
    (a3 : Memref sig .tc .vmem S8x128 .f32) (h3 : a3.IsWhole) (a4 : Memref sig .tc .vmem S64x128 .f32) (h4 : a4.IsWhole)
    (a5 : Memref sig .tc .vmem S64x64 .bf16) (h5 : a5.IsWhole) (a6 : Memref sig .tc .vmem S16384x64 .bf16) (h6 : a6.IsWhole)
    (a7 : Memref sig .tc .vmem S8x2048 .f32) (h7 : a7.IsWhole) (a8 : Memref sig .tc .vmem S64x16384 .f32) (h8 : a8.IsWhole)
    (x1 : Vec Ideal S64x2048 .f32) (x2 : Vec Ideal S8x64 .f32) (x3 : Vec Ideal S8x128 .f32) (x4 : Vec Ideal S64x128 .f32)
    (x5 : Vec Ideal S64x64 .bf16) (x6 : Vec Ideal S16384x64 .bf16) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ (∃ d, owns (c : Thread nD τ) a7 fullShare d) ∗ (∃ d, owns (c : Thread nD τ) a8 fullShare d)
        ∗ (iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ owns (c : Thread nD τ) a7 fullShare (k0_pay2 x1 x2 (column8 x3))
            ∗ owns (c : Thread nD τ) a8 fullShare (k0_pay3 x1 x2 (column8 x3) x6 x5 (column64 x4))) -∗ K ⟨⟩))
      ⊢ wp frame (wpE (defs₀ (F := Ideal)) Variants.none c none) E
          (cc0__block_kernel i a1 h1 a2 h2 a3 h3 a4 h4 a5 h5 a6 h6 a7 h7 a8 h8) K := by
  simp only [cc0__block_kernel_eq_skeleton]; unfold cc0__block_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, Hk⟩
  subst e1 e2 e3 e4 e5 e6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (View.cover_of_tiled _ S8x2048.size (by rfl))).trans ?_
    rw [View.canon_unit_zero zeros, ← load_column8]
    conv_rhs => rw [← View.ld_unit_zero zeros inb_S64x2048_S64x2048_0_0 (a1.view.read (Elt Ideal) f1),
      ← View.ld_unit_zero zeros inb_S8x64_S8x64_0_0 (a2.view.read (Elt Ideal) f2)]
    rfl
  iexists _; isplitr
  swap; · iexact H8
  ipureintro
  refine (View.read_writes_eq_canon _ _ _ (View.cover_of_tiled _ S64x16384.size (by rfl))).trans ?_
  rw [View.canon_unit_zero zeros, ← load_column8, ← load_column64]
  conv_rhs => rw [← View.ld_unit_zero zeros inb_S64x2048_S64x2048_0_0 (a1.view.read (Elt Ideal) f1),
    ← View.ld_unit_zero zeros inb_S8x64_S8x64_0_0 (a2.view.read (Elt Ideal) f2),
    ← View.ld_unit_zero zeros inb_S64x64_S64x64_0_0 (a5.view.read (Elt Ideal) f5),
    ← View.ld_unit_zero zeros inb_S16384x64_S16384x64_0_0 (a6.view.read (Elt Ideal) f6)]
  rfl

end Cert.KernelProof.Exact
-- ==== Proof.Prefix.lean ====
/-
  What the kernel's host lines before the region put into the arrays the region reads: transposes, bias columns and the
  two 0/1 tables.
-/
module

public import proofs.«01_k».proof.Proof.Gen.KernelIdeal.Frame
public import Idealize.ShloMosaic.Lib.Claim
public import Idealize.ShloMosaic.Lib.Pointwise

@[expose] public section

set_option maxRecDepth 16384

noncomputable section

namespace Cert.KernelProof.Exact

open Cert.KernelIdeal Cert.KernelIdeal.Gen
open Idealize.ShloMosaic Idealize.ShloMosaic.TcCoe
open Idealize.SL.Sem

variable (m : (ℓ : Loc nD τ sig) → Buf (Elt Ideal) ℓ) (c : Dev nD)

/-- The voxel array is the first argument transposed. -/
theorem entry_x (k : Fin 64) (n : Fin 10000) :
    V m c main_v8 (ix2 k n) = m ((c : Thread nD τ).loc main_arg0) (ix2 n k) := by
  simp only [V, V0, hostOps0, hostOps0_1, hostOps0_2, List.flatten_cons, List.flatten_nil, List.append_nil, List.cons_append, List.nil_append]
  entry_read
  pointwise

/-- The projection's weights, transposed. -/
theorem entry_w (s : Fin 8) (k : Fin 64) :
    V m c main_v9 (ix2 s k) = m ((c : Thread nD τ).loc main_arg5) (ix2 k s) := by
  simp only [V, V0, hostOps0, hostOps0_1, hostOps0_2, List.flatten_cons, List.flatten_nil, List.append_nil, List.cons_append, List.nil_append]
  entry_read
  pointwise

/-- The projection's bias, one value per row. -/
theorem entry_b (s : Fin 8) (k : Fin 128) :
    V m c main_v11 (ix2 s k) = m ((c : Thread nD τ).loc main_arg6) (ix1 s) := by
  simp only [V, V0, hostOps0, hostOps0_1, hostOps0_2, List.flatten_cons, List.flatten_nil, List.append_nil, List.cons_append, List.nil_append]
  entry_read
  pointwise

/-- The second convolution's bias, one value per row. -/
theorem entry_b2 (s : Fin 64) (k : Fin 128) :
    V m c main_v13 (ix2 s k) = m ((c : Thread nD τ).loc main_arg10) (ix1 s) := by
  simp only [V, V0, hostOps0, hostOps0_1, hostOps0_2, List.flatten_cons, List.flatten_nil, List.append_nil, List.cons_append, List.nil_append]
  entry_read
  pointwise

/-- The table's word for one. -/
theorem one_bf16 : (FloatOps.ofBits FTy.bf16 0x3F80#16 : Ideal FTy.bf16) = (1 : EReal) := by
  pointwise

/-- The table's word for zero. -/
theorem zero_bf16 : (FloatOps.ofBits FTy.bf16 0#16 : Ideal FTy.bf16) = (0 : EReal) := by
  pointwise

/-- The 64×64 table, by its words: row `q` has a one in the eight columns that are `q / 8` modulo 8. -/
theorem lit0_word : ∀ q p : Fin 64, lit0 (S64x64.rowMajor (ix2 q p)) = if p.val % 8 = q.val / 8 then 0x3F80#16 else 0#16 := by
  decide +kernel

/-- The 64×64 table's values: the column's residue modulo 8 against the row's group of eight. -/
theorem entry_L (q p : Fin 64) : V m c main_cst (ix2 q p) = if p.val % 8 = q.val / 8 then (1 : EReal) else 0 := by
  simp only [V, V0, hostOps0, hostOps0_1, hostOps0_2, List.flatten_cons, List.flatten_nil, List.append_nil, List.cons_append, List.nil_append]
  entry_read
  rw [lit0_word]
  split
  · exact one_bf16
  · exact zero_bf16

/-- The child table's values: the row's residue modulo 8 against the column's group of eight. -/
theorem entry_B (k : Fin 16384) (p : Fin 64) : V m c main_v14 (ix2 k p) = if k.val % 8 = p.val / 8 then (1 : EReal) else 0 := by
  simp only [V, V0, hostOps0, hostOps0_1, hostOps0_2, List.flatten_cons, List.flatten_nil, List.append_nil, List.cons_append, List.nil_append]
  entry_read
  show truncf (F := Ideal) FTy.bf16 (select (cmpi CmpIPredicate.eq
              (Host.remsi (iotaInDim S16384x64 32 0)
                (broadcastInDim S16384x64 ![] bcast_S_S16384x64 (constantI S_ 32 8#32)))
              (Host.divsi (iotaInDim S16384x64 32 1)
                (broadcastInDim S16384x64 ![] bcast_S_S16384x64 (constantI S_ 32 8#32))))
        (broadcastInDim S16384x64 ![] bcast_S_S16384x64 (constant S_ FTy.f32 1065353216#32))
        (broadcastInDim S16384x64 ![] bcast_S_S16384x64 (constant S_ FTy.f32 0#32))) bitsLt_bf16_f32 (ix2 k p) = _
  pointwise
  unfold Scalar.select
  rw [show (1 : BitVec 1) = 1#1 from rfl]
  have hp : IntOp.divsi ArithUnit.host (BitVec.ofNat 32 p) 8#32 = BitVec.ofNat 32 (p / 8) := by revert p; decide +kernel
  have hk : (IntOp.remsi ArithUnit.host (BitVec.ofNat 32 k) 8#32).toNat = k.val % 8 := by
    have hn : (BitVec.ofNat 32 k.val).toNat = k.val := by rw [BitVec.toNat_ofNat]; omega
    rw [IntOp.toNat_remsi ArithUnit.host (by omega) 8 (by omega) (by omega), hn]
  refine if_congr ?_ rfl rfl
  rw [IntOp.cmpi_eq, hp, ← BitVec.toNat_inj, hk, BitVec.toNat_ofNat]
  omega

end Cert.KernelProof.Exact
-- ==== Proof.IdealRun.lean ====
/-
  The run of the kernel on exact values: what each grid point writes back is the closed form of the two result arrays on
  that point's block, so the arrays end at the closed forms.
-/
module

public import proofs.«01_k».proof.Proof.IdealBody
public import proofs.«01_k».proof.Proof.Prefix
public import Idealize.ShloMosaic.Lib.Pipeline.ValueKit

@[expose] public section

set_option maxRecDepth 16384

noncomputable section

namespace Cert.KernelProof.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open scoped BigOperators
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The transposed logits as one array: each voxel's row against each subdivision channel, plus the channel's bias. -/
def subT (x : Vec Ideal S64x10000 .f32) (w : Vec Ideal S8x64 .f32) (b : Vec Ideal S8x128 .f32) : Vec Ideal S8x10000 .f32 :=
  fun i => (∑ k : Fin 64, w (ix2 (i 0) k) * x (ix2 k (i 1))) + b (ix2 (i 0) 0)

/-- The transposed features as one array: child `j` of voxel `n` is column `8 n + j`; its output channel `q` is the voxel's
    channel `8 j + q / 8`, masked by the child's logit, plus the output channel's bias. -/
def outT (x : Vec Ideal S64x10000 .f32) (w : Vec Ideal S8x64 .f32) (b : Vec Ideal S8x128 .f32) (b2 : Vec Ideal S64x128 .f32) :
    Vec Ideal S64x80000 .f32 :=
  fun i => x (ix2 (source (i 0) (i 1).val) ⟨(i 1).val / 8, by have : (i 1).val < 80000 := (i 1).isLt; omega⟩)
      * gate (subT x w b (ix2 ⟨(i 1).val % 8, by omega⟩ ⟨(i 1).val / 8, by have : (i 1).val < 80000 := (i 1).isLt; omega⟩))
    + b2 (ix2 (i 0) 0)

/-- The closed form of the logits on the arrays the region reads, -/
abbrev subAt (c : Dev nD) : Vec Ideal S8x10000 .f32 := subT (V m c main_v8) (V m c main_v9) (V m c main_v11)

/-- and of the features. -/
abbrev outAt (c : Dev nD) : Vec Ideal S64x80000 .f32 := outT (V m c main_v8) (V m c main_v9) (V m c main_v11) (V m c main_v13)

/-- What the data hold past an array's end, where nothing is stated: zero. -/
def filler {s : Shape} : s.Idx → Elt Ideal .f32 := fun _ => (0 : EReal)

/-- The closed forms on point `t`'s block. -/
def subPart (c : Dev nD) (t : Fin cfg0.N) : (win0_6.xblock (grid0.coords t)).Idx → Elt Ideal .f32 :=
  fun y => subAt m c ((win0_6.blk t).view.emb y)
def outPart (c : Dev nD) (t : Fin cfg0.N) : (win0_7.xblock (grid0.coords t)).Idx → Elt Ideal .f32 :=
  fun y => outAt m c ((win0_7.blk t).view.emb y)

/-! ## Where the blocks lie -/

/-- The voxel window moves by one block per point along the voxels, -/
theorem index_0 : ∀ t : Fin cfg0.N, win0_0.index t = ![0, t.val] := (by decide +kernel : ∀ t : Fin grid0.N, _)
/-- and its block keeps its channels and loses what lies past the array's end. -/
theorem xsize_0 : ∀ t : Fin cfg0.N,
    win0_0.xsize (grid0.coords t) 0 = 64 ∧ win0_0.xsize (grid0.coords t) 1 = min 2048 (10000 - t.val * 2048) :=
  (by decide +kernel : ∀ t : Fin grid0.N, _)
/-- The five parameter windows stay at the one block that is their whole array. -/
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
/-- The results' windows move with the voxel window. -/
theorem index_6 : ∀ t : Fin cfg0.N, win0_6.index t = ![0, t.val] := (by decide +kernel : ∀ t : Fin grid0.N, _)
theorem index_7 : ∀ t : Fin cfg0.N, win0_7.index t = ![0, t.val] := (by decide +kernel : ∀ t : Fin grid0.N, _)

theorem block_1 (c : Dev nD) (t : Fin cfg0.N) (s : Fin 8) (k : Fin 64) :
    (iblk m c 1 t : S8x64.Idx → EReal) (ix2 s k) = V m c main_v9 (ix2 s k) := by
  blk_ext [iblk, index_1 t]
theorem block_2 (c : Dev nD) (t : Fin cfg0.N) (s : Fin 8) (k : Fin 128) :
    (iblk m c 2 t : S8x128.Idx → EReal) (ix2 s k) = V m c main_v11 (ix2 s k) := by
  blk_ext [iblk, index_2 t]
theorem block_3 (c : Dev nD) (t : Fin cfg0.N) (s : Fin 64) (k : Fin 128) :
    (iblk m c 3 t : S64x128.Idx → EReal) (ix2 s k) = V m c main_v13 (ix2 s k) := by
  blk_ext [iblk, index_3 t]
theorem block_4 (c : Dev nD) (t : Fin cfg0.N) (q : Fin 64) (p : Fin 64) :
    (iblk m c 4 t : _ → EReal) (ix2 q p) = V m c main_cst (ix2 q p) := by
  blk_ext [iblk, index_4 t]
theorem block_5 (c : Dev nD) (t : Fin cfg0.N) (k : Fin 16384) (p : Fin 64) :
    (iblk m c 5 t : _ → EReal) (ix2 k p) = V m c main_v14 (ix2 k p) := by
  blk_ext [iblk, index_5 t]

/-- The voxel window's buffer, an entry whose column lies inside the array: the array's. -/
theorem voxels_at (c : Dev nD) (t : Fin cfg0.N) (d0 : S64x2048.Idx → Elt Ideal .f32) (k : Fin 64) (r : Fin 2048) (n : Fin 10000)
    (h : n.val = t.val * 2048 + r.val) :
    win0_0.fill (grid0.coords t) d0 (iblk m c 0 t) (ix2 k r) = V m c main_v8 (ix2 k n) := by
  obtain ⟨h0, h1⟩ := xsize_0 t
  have hj : ∀ a : Fin 2, ((ix2 k r : S64x2048.Idx) a).val < win0_0.xsize (grid0.coords t) a := by
    intro a; fin_cases a
    · exact k.isLt.trans_eq h0.symm
    · refine lt_of_lt_of_eq ?_ h1.symm
      have := n.isLt
      have := r.isLt
      show r.val < _
      omega
  refine (win0_0.fill_xinj (grid0.coords t) d0 (iblk m c 0 t) (fun a => ⟨_, hj a⟩)).trans ?_
  blk_ext [iblk, index_0 t]

/-- What the body leaves in the logits' buffer at point `t`, the voxel buffer's unnamed part being `d0`'s, -/
abbrev bodySub (c : Dev nD) (t : Fin cfg0.N) (d0 : S64x2048.Idx → Elt Ideal .f32) : Vec Ideal S8x2048 .f32 :=
  k0_pay2 (win0_0.fill (grid0.coords t) d0 (iblk m c 0 t)) (iblk m c 1 t) (column8 (iblk m c 2 t))

/-- and in the features'. -/
abbrev bodyOut (c : Dev nD) (t : Fin cfg0.N) (d0 : S64x2048.Idx → Elt Ideal .f32) : Vec Ideal S64x16384 .f32 :=
  k0_pay3 (win0_0.fill (grid0.coords t) d0 (iblk m c 0 t)) (iblk m c 1 t) (column8 (iblk m c 2 t)) (iblk m c 5 t)
    (iblk m c 4 t) (column64 (iblk m c 3 t))

/-- What the body leaves for one voxel and one channel whose column lies inside the array. -/
theorem sub_at (c : Dev nD) (t : Fin cfg0.N) (d0 : S64x2048.Idx → Elt Ideal .f32) (s : Fin 8) (r : Fin 2048) (n : Fin 10000)
    (h : n.val = t.val * 2048 + r.val) : bodySub m c t d0 (ix2 s r) = subAt m c (ix2 s n) := by
  refine (block_sub _ _ _ s r).trans ?_
  refine congrArg₂ (· + ·) (Finset.sum_congr rfl fun k _ => ?_) (block_2 m c t s 0)
  rw [block_1, voxels_at m c t d0 k r n h]
  rfl

/-- What the body leaves for one child and one channel whose column lies inside the array. -/
theorem out_at (c : Dev nD) (t : Fin cfg0.N) (d0 : S64x2048.Idx → Elt Ideal .f32) (q : Fin 64) (k : Fin 16384) (n : Fin 80000)
    (h : n.val = t.val * 16384 + k.val) : bodyOut m c t d0 (ix2 q k) = outAt m c (ix2 q n) := by
  have hk : n.val % 8 = k.val % 8 := by omega
  have hd : n.val / 8 = t.val * 2048 + k.val / 8 := by omega
  refine (block_out _ _ _ _ _ _ (fun q p => (block_4 m c t q p).trans (entry_L m c q p))
    (fun k p => (block_5 m c t k p).trans (entry_B m c k p)) q k).trans ?_
  have hS := sub_at m c t d0 ⟨k.val % 8, by omega⟩ ⟨k.val / 8, by omega⟩ ⟨n.val / 8, by omega⟩ hd
  simp only [bodySub] at hS
  rw [voxels_at m c t d0 _ _ ⟨n.val / 8, by omega⟩ hd, hS]
  have hs : source q k.val = source q n.val := Fin.ext (by simp only [source]; omega)
  have hm : (⟨k.val % 8, by omega⟩ : Fin 8) = ⟨n.val % 8, by omega⟩ := Fin.ext hk.symm
  rw [hs, hm]
  exact congrArg₂ (· + ·) rfl (block_3 m c t q 0)

/-- On the part of the logits' block inside the array the body leaves the closed form, whatever `d0` is. -/
theorem cut_sub (c : Dev nD) (t : Fin cfg0.N) (d0 : S64x2048.Idx → Elt Ideal .f32) :
    win0_6.cut (grid0.coords t) (bodySub m c t d0) = subPart m c t := by
  funext y
  have e0 : ((win0_6.blk t).view.emb y 0).val = (win0_6.xinj (grid0.coords t) y 0).val := by
    blk_simp [index_6 t]
  have e1 : ((win0_6.blk t).view.emb y 1).val = t.val * 2048 + (win0_6.xinj (grid0.coords t) y 1).val := by
    blk_simp [index_6 t]
  have hx := sub_at m c t d0 (win0_6.xinj (grid0.coords t) y 0) (win0_6.xinj (grid0.coords t) y 1)
    ((win0_6.blk t).view.emb y 1) e1
  have hl : win0_6.xinj (grid0.coords t) y
      = ix2 (win0_6.xinj (grid0.coords t) y 0) (win0_6.xinj (grid0.coords t) y 1) := by
    funext a; fin_cases a <;> rfl
  have hr : (win0_6.blk t).view.emb y = ix2 (win0_6.xinj (grid0.coords t) y 0) ((win0_6.blk t).view.emb y 1) := by
    funext a; fin_cases a
    · exact Fin.ext e0
    · rfl
  exact (congrArg (bodySub m c t d0) hl).trans (hx.trans (congrArg (subAt m c) hr).symm)

/-- Likewise the features'. -/
theorem cut_out (c : Dev nD) (t : Fin cfg0.N) (d0 : S64x2048.Idx → Elt Ideal .f32) :
    win0_7.cut (grid0.coords t) (bodyOut m c t d0) = outPart m c t := by
  funext y
  have e0 : ((win0_7.blk t).view.emb y 0).val = (win0_7.xinj (grid0.coords t) y 0).val := by
    blk_simp [index_7 t]
  have e1 : ((win0_7.blk t).view.emb y 1).val = t.val * 16384 + (win0_7.xinj (grid0.coords t) y 1).val := by
    blk_simp [index_7 t]
  have hx := out_at m c t d0 (win0_7.xinj (grid0.coords t) y 0) (win0_7.xinj (grid0.coords t) y 1)
    ((win0_7.blk t).view.emb y 1) e1
  have hl : win0_7.xinj (grid0.coords t) y
      = ix2 (win0_7.xinj (grid0.coords t) y 0) (win0_7.xinj (grid0.coords t) y 1) := by
    funext a; fin_cases a <;> rfl
  have hr : (win0_7.blk t).view.emb y = ix2 (win0_7.xinj (grid0.coords t) y 0) ((win0_7.blk t).view.emb y 1) := by
    funext a; fin_cases a
    · exact Fin.ext e0
    · rfl
  exact (congrArg (bodyOut m c t d0) hl).trans (hx.trans (congrArg (outAt m c) hr).symm)

/-- The proof data: the arrays as the region finds them; after the body each input's buffer still at its block (the voxel
    window's filled out past the array's end with a word nothing reads), each result's at its array's closed form there. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) filler (iblk m c 0 t)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => win0_6.fill (grid0.coords t) filler (subPart m c t)
    | ⟨7, _⟩ => win0_7.fill (grid0.coords t) filler (outPart m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t
    = win0_0.fill (grid0.coords t) filler (iblk m c 0 t) := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

theorem after_6 (c : Dev nD) (t : Fin cfg0.N) : (dats m 0 c).after 6 t
    = win0_6.fill (grid0.coords t) filler (subPart m c t) := by dsimp only [dats]
theorem after_7 (c : Dev nD) (t : Fin cfg0.N) : (dats m 0 c).after 7 t
    = win0_7.fill (grid0.coords t) filler (outPart m c t) := by dsimp only [dats]

/-- What the body leaves in a result's buffer is the closed form filled out past the array's end with the body's own values. -/
theorem keeps_sub (c : Dev nD) (t : Fin cfg0.N) (d0 : S64x2048.Idx → Elt Ideal .f32) :
    win0_6.fill (grid0.coords t) (bodySub m c t d0) (win0_6.cut (grid0.coords t) ((dats m 0 c).after 6 t)) = bodySub m c t d0 := by
  rw [after_6, win0_6.cut_fill, ← cut_sub m c t d0, win0_6.fill_cut]
theorem keeps_out (c : Dev nD) (t : Fin cfg0.N) (d0 : S64x2048.Idx → Elt Ideal .f32) :
    win0_7.fill (grid0.coords t) (bodyOut m c t d0) (win0_7.cut (grid0.coords t) ((dats m 0 c).after 7 t)) = bodyOut m c t d0 := by
  rw [after_7, win0_7.cut_fill, ← cut_out m c t d0, win0_7.fill_cut]

/-- The voxel window is fetched at every point: its buffer holds the block, and past the array's end anything. -/
theorem before_0 (c : Dev nD) (t : Fin cfg0.N) (d) :
    (dats m 0 c).before 0 t d = win0_0.fill (grid0.coords t) d (iblk m c 0 t) := by
  unfold Dat.before; rw [if_pos (fetch0_0 t)]; rfl

/-- What the pipeline calls at a grid point is the body on that point's buffers. -/
theorem body_row (t : Fin cfg0.N) : defs₀ (F := Ideal) .tc cfg0.body (cfg0.bodyArgs t (cfg0.slots t)) = bodyAt0 t := by
  unfold defs₀; rw [Defs.onTc_tc]

/-- The body obligation: from the buffers as the pipeline hands them over to the buffers as it takes them back. -/
theorem obligation (c : Dev nD) :
    BodyObligationLoose (dats m 0 c) (defs₀ (F := Ideal)) Variants.none () Set.univ := fun t => by
  rw [bigSep_W0, bigSep_W0, body_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before_0 m c t d0, before0_1_of m (dats m 0 c) (A_eq m c 1) (after_1 m c) t d1,
    before0_2_of m (dats m 0 c) (A_eq m c 2) (after_2 m c) t d2, before0_3_of m (dats m 0 c) (A_eq m c 3) (after_3 m c) t d3,
    before0_4_of m (dats m 0 c) (A_eq m c 4) (after_4 m c) t d4, before0_5_of m (dats m 0 c) (A_eq m c 5) (after_5 m c) t d5]
  iapply (body_runs c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5)) (win0_6.stage (cfg0.slots t 6)) (hstage0_6 ((cfg0.slots t 6).cast nbuf0_6))
    (win0_7.stage (cfg0.slots t 7)) (hstage0_7 ((cfg0.slots t 7).cast nbuf0_7))
    (win0_0.fill (grid0.coords t) d0 (iblk m c 0 t)) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]
  · iexists d0
    rw [after_0, show (win0 0).cut (grid0.coords t) (win0_0.fill (grid0.coords t) filler (iblk m c 0 t))
      = iblk m c 0 t from win0_0.cut_fill _ _ _]
    iexact H0
  isplitl [H1]; · rw [after_1]; iexact H1
  isplitl [H2]; · rw [after_2]; iexact H2
  isplitl [H3]; · rw [after_3]; iexact H3
  isplitl [H4]; · rw [after_4]; iexact H4
  isplitl [H5]; · rw [after_5]; iexact H5
  isplitl [H6]
  · iexists bodySub m c t d0
    change _ ⊢ owns (c : Thread nD τ) (stage0_6 (cfg0.slots t 6)) fullShare (win0_6.fill (grid0.coords t)
      (bodySub m c t d0) (win0_6.cut (grid0.coords t) ((dats m 0 c).after 6 t)))
    rw [keeps_sub m c t d0]
    try iexact H6
  iexists bodyOut m c t d0
  change _ ⊢ owns (c : Thread nD τ) (stage0_7 (cfg0.slots t 7)) fullShare (win0_7.fill (grid0.coords t)
    (bodyOut m c t d0) (win0_7.cut (grid0.coords t) ((dats m 0 c).after 7 t)))
  rw [keeps_out m c t d0]
  try iexact H7

set_option backward.isDefEq.respectTransparency.types false in
set_option maxHeartbeats 800000 in
/-- The whole run: the arrays at what the pipeline's data say, every other buffer as the last lines leave it, the counters
    at zero. -/
theorem run_exact : θ_run defs (onTc (τ := τ) (main (F := Ideal))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The logits' array after the last point. -/
theorem final_sub (c : Dev nD) : (dats m 0 c).arrAt 6 cfg0.N = subAt m c := by
  refine (dats m 0 c).arrAt_eq_of_covers 6 _ (by decide +kernel) fun t _ y => ?_
  rw [after_6]
  exact win0_6.fill_xinj (grid0.coords t) _ (subPart m c t) y

/-- The features' array after the last point. -/
theorem final_out (c : Dev nD) : (dats m 0 c).arrAt 7 cfg0.N = outAt m c := by
  refine (dats m 0 c).arrAt_eq_of_covers 7 _ (by decide +kernel) fun t _ y => ?_
  rw [after_7]
  exact win0_7.fill_xinj (grid0.coords t) _ (outPart m c t) y

end Cert.KernelProof.Exact
-- ==== Proof.Closed.lean ====
/-
  The two results in closed form on exact values: what both programs are shown to compute.
-/
module

public import proofs.«01_k».proof.Proof.Block

@[expose] public section

set_option maxRecDepth 16384

noncomputable section

namespace Cert.KernelProof

open Cert.KernelIdeal Cert.KernelIdeal.Gen
open Idealize.ShloMosaic
open scoped BigOperators

/-- A subdivision logit: voxel `n`'s row against channel `s` of the head, plus the head's bias. -/
def logit (x : Vec Ideal S10000x64 .f32) (w : Vec Ideal S64x8 .f32) (b : Vec Ideal S8 .f32) (n : Fin 10000) (s : Fin 8) : EReal :=
  (∑ k : Fin 64, x (ix2 n k) * w (ix2 k s)) + b (ix1 s)

/-- All logits, one row per voxel. -/
def logits (x : Vec Ideal S10000x64 .f32) (w : Vec Ideal S64x8 .f32) (b : Vec Ideal S8 .f32) : Vec Ideal S10000x8 .f32 :=
  fun i => logit x w b (i 0) (i 1)

/-- All features, one row per child: child `k % 8` of voxel `k / 8` takes eight of the voxel's channels, each repeated eight
    times, masked by the child's logit, plus the output channel's bias. -/
def features (x : Vec Ideal S10000x64 .f32) (w : Vec Ideal S64x8 .f32) (b : Vec Ideal S8 .f32) (b2 : Vec Ideal S64 .f32) :
    Vec Ideal S80000x64 .f32 :=
  fun i => have h : (i 0).val < 80000 := (i 0).isLt
    x (ix2 ⟨(i 0).val / 8, by omega⟩ (source (i 1) (i 0).val))
      * gate (logit x w b ⟨(i 0).val / 8, by omega⟩ ⟨(i 0).val % 8, by omega⟩) + b2 (ix1 (i 1))

end Cert.KernelProof
-- ==== Proof.KernelResult.lean ====
/-
  The kernel's two results on exact values, read at an index and told in terms of its arguments alone.
-/
module

public import proofs.«01_k».proof.Proof.IdealRun
public import proofs.«01_k».proof.Proof.Closed

@[expose] public section

set_option maxRecDepth 16384

noncomputable section

namespace Cert.KernelProof.Exact

open Cert.KernelIdeal Cert.KernelIdeal.Gen
open Idealize.ShloMosaic Idealize.ShloMosaic.TcCoe Idealize.SL.Sem
open scoped BigOperators

variable (m : (ℓ : Loc nD τ sig) → Buf (Elt Ideal) ℓ) (ρ : Dev nD → PrngReg)

/-- What the kernel leaves: the arguments' logits, -/
abbrev resSub (c : Dev nD) : Vec Ideal S10000x8 .f32 :=
  logits (m ((c : Thread nD τ).loc main_arg0)) (m ((c : Thread nD τ).loc main_arg5)) (m ((c : Thread nD τ).loc main_arg6))
/-- and the arguments' features. -/
abbrev resOut (c : Dev nD) : Vec Ideal S80000x64 .f32 :=
  features (m ((c : Thread nD τ).loc main_arg0)) (m ((c : Thread nD τ).loc main_arg5)) (m ((c : Thread nD τ).loc main_arg6))
    (m ((c : Thread nD τ).loc main_arg10))

/-- An entry of the transposed logits. -/
theorem subAt_apply (c : Dev nD) (s : Fin 8) (n : Fin 10000) : subAt m c (ix2 s n) = resSub m c (ix2 n s) := by
  refine congrArg₂ (· + ·) (Finset.sum_congr rfl fun k _ => ?_) (entry_b m c s 0)
  refine (congrArg₂ (fun a b : EReal => a * b) (entry_w m c s k) (entry_x m c k n)).trans ?_
  exact mul_comm (G := EReal) _ _

/-- An entry of the transposed features. -/
theorem outAt_apply (c : Dev nD) (q : Fin 64) (k : Fin 80000) : outAt m c (ix2 q k) = resOut m c (ix2 k q) :=
  congrArg₂ (· + ·) (congrArg₂ (· * ·) (entry_x m c _ _) (congrArg gate (subAt_apply m c _ _))) (entry_b2 m c q 0)

/-- The logits' buffer after the last lines. -/
theorem end_v17 (c : Dev nD) :
    Pipeline.afterTail₀ cfgs (dats m) 0 (V0 m) [hostOps1] c main_v17 = resSub m c := by
  have h : Pipeline.afterTail₀ cfgs (dats m) 0 (V0 m) [hostOps1] c main_v17
      = transpose S10000x8 [1, 0] (subAt m c) transposes_S8x10000_S10000x8_1_0 := by
    unfold Pipeline.afterTail₀
    simp only [hostOps1, List.flatten_cons, List.flatten_nil, List.append_nil, List.cons_append, List.nil_append]
    after_results_simp
    refine congrArg (fun z => transpose S10000x8 [1, 0] z transposes_S8x10000_S10000x8_1_0) ?_
    exact (Pipeline.withArrays_arr spec0 (by decide) c (V0 m c) _ 6).trans (final_sub m c)
  rw [h]
  funext i
  rw [eq_ix2 i]
  refine Eq.trans ?_ (subAt_apply m c (i 1) (i 0))
  pointwise

/-- The features' buffer after the last lines. -/
theorem end_v16 (c : Dev nD) :
    Pipeline.afterTail₀ cfgs (dats m) 0 (V0 m) [hostOps1] c main_v16 = resOut m c := by
  have h : Pipeline.afterTail₀ cfgs (dats m) 0 (V0 m) [hostOps1] c main_v16
      = transpose S80000x64 [1, 0] (outAt m c) transposes_S64x80000_S80000x64_1_0 := by
    unfold Pipeline.afterTail₀
    simp only [hostOps1, List.flatten_cons, List.flatten_nil, List.append_nil, List.cons_append, List.nil_append]
    after_results_simp
    refine congrArg (fun z => transpose S80000x64 [1, 0] z transposes_S64x80000_S80000x64_1_0) ?_
    exact (Pipeline.withArrays_arr spec0 (by decide) c (V0 m c) _ 7).trans (final_out m c)
  rw [h]
  funext i
  rw [eq_ix2 i]
  refine Eq.trans ?_ (outAt_apply m c (i 1) (i 0))
  pointwise

/-- The kernel on exact values: it terminates with its two results at the closed forms of its arguments. -/
theorem run_results : θ_run defs (onTc (τ := τ) (main (F := Ideal))) ⟨m, fun _ => 0, ρ⟩ (fun r => ∀ c : Dev nD,
      r.2.mem ((c.tc : Thread nD τ).loc main_v16) = resOut m c ∧ r.2.mem ((c.tc : Thread nD τ).loc main_v17) = resSub m c) :=
  (θ_run defs _ _).mono (fun r h c => ⟨
    ((h.1 c).2 main_v16 (Pipeline.mem_restRefs_of _ (by decide) (by decide))).trans (end_v16 m c),
    ((h.1 c).2 main_v17 (Pipeline.mem_restRefs_of _ (by decide) (by decide))).trans (end_v17 m c)⟩) (run_exact m ρ)

/-- The counters end at zero. -/
theorem run_sem : θ_run defs (onTc (τ := τ) (main (F := Ideal))) ⟨m, fun _ => 0, ρ⟩ (fun r => r.2.sem = fun _ => 0) :=
  (θ_run defs _ _).mono (fun _ h => h.2) (run_exact m ρ)

/-- The frame: it terminates with its arguments unchanged and its counters at zero. -/
theorem run_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => h)
    (θ_run_and (frame_of m ρ (dats m) (A_eq m) ((θ_run defs _ _).mono (fun _ h => h.1) (run_exact m ρ))) (run_sem m ρ))

end Cert.KernelProof.Exact
-- ==== Proof.Reference.lean ====
/-
  The reference's two results on exact values when the second convolution's weights are zero.
-/
module

public import proofs.«01_k».proof.Proof.Gen.ReferenceIdeal.Run
public import proofs.«01_k».proof.Proof.Gen.ReferenceIdeal
public import proofs.«01_k».proof.Proof.Closed
public import Idealize.ShloMosaic.Lib.Pointwise
public import Idealize.ShloMosaic.Lib.Quiescent

@[expose] public section

set_option maxRecDepth 16384

noncomputable section

namespace Cert.ReferenceProof

open Cert.ReferenceIdeal Cert.ReferenceIdeal.Gen Cert.ReferenceIdeal.Value
open Cert.KernelProof (gate gate_of_word source logit logits features)
open Idealize.ShloMosaic Idealize.ShloMosaic.TcCoe Idealize.SL.Sem
open scoped BigOperators

/-- A comparison's bit, read as an unsigned number, is the mask. -/
theorem gate_of_bit (s : EReal) : (FloatOps.uitofp FTy.f32 (BitVec.ofBool (decide (0 < s))) : Ideal FTy.f32) = gate s := by
  unfold gate
  by_cases h : 0 < s
  · rw [if_pos h, decide_eq_true h]
    show (((BitVec.ofBool true).toNat : ℝ) : EReal) = 1
    rw [show (BitVec.ofBool true).toNat = 1 from by decide]
    norm_num
  · rw [if_neg h, decide_eq_false h]
    show (((BitVec.ofBool false).toNat : ℝ) : EReal) = 0
    norm_num

/-- One term of the second convolution: gathered rows against one slice of the weights. All weights being zero, it is zero,
    whatever was gathered. -/
theorem tap_zero (X : FVec Ideal S80000x64 .f32) (W : FVec Ideal S27x64x64 .f32) (hW : ∀ i, W i = (0 : EReal))
    (o : Fin 3 → ℕ) (h : S27x64x64.Slices o S1x64x64) (hs : S1x64x64.numel = S64x64.numel) :
    Host.dotGeneral (F := Ideal) dot_S80000x64_S64x64_S80000x64_1_0_0_1_n_n none X
      (shapeCast S64x64 (extractStridedSlice S1x64x64 o W h) hs) = (fun _ => (0 : EReal) : FVec Ideal S80000x64 .f32) := by
  funext i
  rw [eq_ix2 i]
  pointwise
  exact Finset.sum_eq_zero fun k _ => by rw [hW, mul_zero]

/-- Adding such a term changes nothing. -/
theorem add_tap (Y X : FVec Ideal S80000x64 .f32) (W : FVec Ideal S27x64x64 .f32) (hW : ∀ i, W i = (0 : EReal))
    (o : Fin 3 → ℕ) (h : S27x64x64.Slices o S1x64x64) (hs : S1x64x64.numel = S64x64.numel) :
    addf Y (Host.dotGeneral (F := Ideal) dot_S80000x64_S64x64_S80000x64_1_0_0_1_n_n none X
      (shapeCast S64x64 (extractStridedSlice S1x64x64 o W h) hs)) = Y := by
  rw [tap_zero X W hW o h hs]
  funext i
  exact add_zero (M := EReal) (Y i)

variable (V : Valuation τ sig (Elt Ideal))

/-- The arguments the closed forms read, as the reference holds them. -/
abbrev argX : FVec Ideal S10000x64 .f32 := V (Proc.devRef .tc main_arg0)
abbrev argW : FVec Ideal S64x8 .f32 := V (Proc.devRef .tc main_arg5)
abbrev argB : FVec Ideal S8 .f32 := V (Proc.devRef .tc main_arg6)
abbrev argW2 : FVec Ideal S27x64x64 .f32 := V (Proc.devRef .tc main_arg9)
abbrev argB2 : FVec Ideal S64 .f32 := V (Proc.devRef .tc main_arg10)

/-- The second convolution's sum after its first twenty-five terms: the bias alone. -/
theorem conv_prefix (hW : ∀ i, argW2 V i = (0 : EReal)) :
    res_main_v429 V = addf (broadcastInDim S80000x64 ![] bcast_S_S80000x64 (constant S_ .f32 0x00000000#32))
      (broadcastInDim S80000x64 ![0, 1] bcast_S1x64_S80000x64_0_1 (broadcastInDim S1x64 ![1] bcast_S64_S1x64_1 (argB2 V))) := by
  unfold res_main_v429 res_main_v394 res_main_v359 res_main_v324 res_main_v289
  iterate 25 refine (add_tap _ _ (argW2 V) hW _ _ _).trans ?_
  rfl

/-- The reference's logits. -/
theorem ref_sub (i : S10000x8.Idx) :
    addf (Host.dotGeneral dot_S10000x64_S64x8_S10000x8_1_0_0_1_n_n none (argX V) (argW V))
      (broadcastInDim S10000x8 ![0, 1] bcast_S1x8_S10000x8_0_1 (broadcastInDim S1x8 ![1] bcast_S8_S1x8_1 (argB V))) i
      = logits (argX V) (argW V) (argB V) i := by
  rw [eq_ix2 i]
  pointwise [logits, logit]

/-- The reference's mask, an entry: the child's logit, positive or not. -/
theorem ref_mask (k : Fin 80000) :
    res_main_v225 V (ix2 k 0) = gate (logit (argX V) (argW V) (argB V) ⟨k.val / 8, by omega⟩ ⟨k.val % 8, by omega⟩) := by
  unfold res_main_v225
  pointwise
  exact gate_of_bit _

/-- The skip path, an entry: the child's share of the voxel's channels, each repeated eight times, masked. -/
theorem ref_skip (k : Fin 80000) (q : Fin 64) :
    shapeCast S80000x64 (broadcastInDim S80000x8x8 ![0, 1] bcast_S80000x8_S80000x8x8_0_1 (mulf (shapeCast S80000x8 (argX V) shapeCasts_S10000x64_S80000x8) (broadcastInDim S80000x8 ![0, 1] bcast_S80000x1_S80000x8_0_1 (res_main_v225 V)))) shapeCasts_S80000x8x8_S80000x64 (ix2 k q)
      = argX V (ix2 ⟨k.val / 8, by omega⟩ (source q k.val)) * res_main_v225 V (ix2 k 0) := by
  generalize res_main_v225 V = M
  pointwise
  have h : (⟨k.val % 8 * 8 + q.val / 8, by omega⟩ : Fin 64) = source q k.val := Fin.ext (by simp only [source]; omega)
  rw [h]

/-- The features the reference ends at are the closed form: the bias and the skip path. -/
theorem ref_out (hW : ∀ i, argW2 V i = (0 : EReal)) :
    val8 V (Proc.devRef .tc main_v446) = features (argX V) (argW V) (argB V) (argB2 V) := by
  refine (val8_main_v446 V).trans ?_
  refine funext fun (i : S80000x64.Idx) => ?_
  obtain ⟨k, q, rfl⟩ : ∃ (k : Fin 80000) (q : Fin 64), i = ix2 k q := ⟨i 0, i 1, eq_ix2 i⟩
  refine (congrArg₂ (fun a b : EReal => a + b) (congrFun ((add_tap _ _ (argW2 V) hW _ _ _).trans ((add_tap _ _ (argW2 V) hW _ _ _).trans (conv_prefix V hW))) _) (ref_skip V k q)).trans ?_
  rw [ref_mask]
  refine (add_comm (G := EReal) _ _).trans (congrArg₂ (fun a b : EReal => a + b) rfl ?_)
  pointwise

/-- And its logits. -/
theorem ref_logits : val8 V (Proc.devRef .tc main_v3) = logits (argX V) (argW V) (argB V) :=
  (val8_main_v3 V).trans (funext (ref_sub V))

variable (m : (ℓ : Loc nD τ sig) → Buf (Elt Ideal) ℓ) (ρ : Dev nD → PrngReg)

/-- The reference's frame: it terminates with its arguments unchanged and its counters, of which it has none, at zero. -/
theorem run_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => (h c).2.2, sem_eq_zero_of_no_sems (by decide) r.2⟩) (Value.run m ρ)

/-- The second convolution's weights being zero, it ends with its results at the closed forms of its arguments. -/
theorem run_results (hW : ∀ c : Dev nD, ∀ i, argW2 (StableHlo.launchContents m c) i = (0 : EReal)) :
    θ_run defs (onTc (τ := τ) (main (F := Ideal))) ⟨m, fun _ => 0, ρ⟩ (fun r => ∀ c : Dev nD,
      r.2.mem ((c.tc : Thread nD τ).loc main_v446) = features (m ((c.tc : Thread nD τ).loc main_arg0))
          (m ((c.tc : Thread nD τ).loc main_arg5)) (m ((c.tc : Thread nD τ).loc main_arg6)) (m ((c.tc : Thread nD τ).loc main_arg10))
      ∧ r.2.mem ((c.tc : Thread nD τ).loc main_v3) = logits (m ((c.tc : Thread nD τ).loc main_arg0))
          (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans ((val8_main_v446 _).symm.trans (ref_out _ (hW c))),
    (h c).2.1.trans ((val8_main_v3 _).symm.trans (ref_logits _)), (h c).2.2⟩) (Value.run m ρ)

end Cert.ReferenceProof
-- ==== Proof.Equation.lean ====
/-
  The equation: from memories with the same arguments, the second convolution's weights being zero, the kernel and the
  reference end with the same two results.
-/
module

public import proofs.«01_k».proof.Defs
public import proofs.«01_k».proof.Proof.KernelResult
public import proofs.«01_k».proof.Proof.Reference
public import proofs.«01_k».proof.Proof.Gen.Pre_conv2_zero

@[expose] public section

set_option maxRecDepth 16384

noncomputable section

namespace Cert.Equation

open Idealize.ShloMosaic Idealize.ShloMosaic.TcCoe Idealize.SL.Sem

/-- The precondition's entry: the comparison of a weight with zero is true exactly where the weight is zero. -/
theorem zero_of_bit (W : FVec Ideal Cert.Pre_conv2_zero.S27x64x64 .f32) (i : Cert.Pre_conv2_zero.S27x64x64.Idx)
    (h : cmpf .oeq W (broadcastInDim Cert.Pre_conv2_zero.S27x64x64 ![] Cert.Pre_conv2_zero.Gen.bcast_S_S27x64x64
      (constant (F := Ideal) Cert.Pre_conv2_zero.S_ .f32 0x00000000#32)) i = 1#1) : W i = (0 : EReal) := by
  revert h
  rw [eq_ix3 i]
  pointwise
  intro h
  by_contra hne
  rw [decide_eq_false hne] at h
  exact absurd h (by decide)

/-- The precondition, read: every weight of the second convolution is zero. -/
theorem weights_zero (m : (ℓ : Loc Cert.KernelIdeal.nD Cert.KernelIdeal.τ Cert.KernelIdeal.sig) → Buf (Elt Ideal) ℓ)
    (h : Cert.Pre_KernelIdeal_conv2_zero m) (c : Dev Cert.KernelIdeal.nD) (i : Cert.Pre_conv2_zero.S27x64x64.Idx) :
    m ((c.tc : Thread Cert.KernelIdeal.nD Cert.KernelIdeal.τ).loc Cert.KernelIdeal.main_arg9) i = (0 : EReal) :=
  zero_of_bit _ i (congrFun (h c) i)

/-- Both programs end at the same features and the same logits. -/
theorem algebraic : Cert.algebraic_KernelIdeal_ReferenceIdeal_pre_conv2_zero := by
  intro m g m' g' hpre hargs
  refine ⟨Cert.KernelProof.Exact.resOut m, Cert.KernelProof.Exact.resSub m, ?_, ?_⟩
  · exact (θ_run _ _ _).mono (fun r h c => ⟨(h.1 c).1, (h.1 c).2, h.2.1 c⟩)
      (θ_run_and (Cert.KernelProof.Exact.run_results m g) (Cert.KernelProof.Exact.run_frame m g))
  · refine (θ_run _ _ _).mono (fun r h c => ?_) (Cert.ReferenceProof.run_results m' g' fun c i => ?_)
    · obtain ⟨e0, e1, e2, e3, e4, e5, e6, e7, e8, e9, e10⟩ := hargs c
      obtain ⟨h0, h1, h2⟩ := h c
      refine ⟨h0.trans ?_, h1.trans ?_, h2⟩
      · rw [e0, e5, e6, e10]
      · rw [e0, e5, e6]
    · obtain ⟨e0, e1, e2, e3, e4, e5, e6, e7, e8, e9, e10⟩ := hargs c
      exact (congrFun e9 i).trans (weights_zero m hpre c i)

end Cert.Equation
-- ==== Proof.lean ====
/-
  The certificate's claim, assembled: the three frames (each also under the precondition of the value claim), the ideal
  program being the kernel's, and the equation of kernel and reference over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_conv2_zero
public import proofs.«01_k».proof.Proof.KernelFrame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Pre_conv2_zero.Gen.facts,
    fun m g _ => Cert.KernelProof.frame_kernel m g,
    fun m g _ => Cert.KernelProof.Exact.run_frame m g,
    fun m g _ => Cert.KernelProof.Exact.run_frame m g,
    fun m g _ => Cert.ReferenceProof.run_frame m g,
    fun m g _ => Cert.ReferenceProof.run_frame m g,
    trivial,
    Cert.Equation.algebraic⟩

end Cert.Proof

end
